-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_v313) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x640x2048 : Shape := ⟨3, ![24, 640, 2048]⟩
abbrev S2048 : Shape := ⟨1, ![2048]⟩
abbrev S11x1024 : Shape := ⟨2, ![11, 1024]⟩
abbrev S8192x512 : Shape := ⟨2, ![8192, 512]⟩
abbrev S8192x32 : Shape := ⟨2, ![8192, 32]⟩
abbrev S8192 : Shape := ⟨1, ![8192]⟩
abbrev S15360x2048 : Shape := ⟨2, ![15360, 2048]⟩
abbrev S1x2048 : Shape := ⟨2, ![1, 2048]⟩
abbrev S1x8192 : Shape := ⟨2, ![1, 8192]⟩
abbrev S15360x8192 : Shape := ⟨2, ![15360, 8192]⟩
abbrev S256x2048 : Shape := ⟨2, ![256, 2048]⟩
abbrev S256x8192 : Shape := ⟨2, ![256, 8192]⟩
abbrev S8192x2048 : Shape := ⟨2, ![8192, 2048]⟩
abbrev S11x8x2048 : Shape := ⟨3, ![11, 8, 2048]⟩
abbrev S8x128 : Shape := ⟨2, ![8, 128]⟩
abbrev S1x1024 : Shape := ⟨2, ![1, 1024]⟩
abbrev S8x1024 : Shape := ⟨2, ![8, 1024]⟩
abbrev S8x128x1 : Shape := ⟨3, ![8, 128, 1]⟩
abbrev S1x8x128 : Shape := ⟨3, ![1, 8, 128]⟩
abbrev S32x32 : Shape := ⟨2, ![32, 32]⟩
abbrev S32x128 : Shape := ⟨2, ![32, 128]⟩
abbrev S32x128x1 : Shape := ⟨3, ![32, 128, 1]⟩
abbrev S16x128 : Shape := ⟨2, ![16, 128]⟩
abbrev S1x128 : Shape := ⟨2, ![1, 128]⟩
abbrev S1024x2048 : Shape := ⟨2, ![1024, 2048]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S24x640x2048, .bf16⟩
  | .hbm, ⟨1, _⟩ => ⟨S2048, .f32⟩
  | .hbm, ⟨2, _⟩ => ⟨S11x1024, .f32⟩
  | .hbm, ⟨3, _⟩ => ⟨S8192x512, .i8⟩
  | .hbm, ⟨4, _⟩ => ⟨S8192x32, .bf16⟩
  | .hbm, ⟨5, _⟩ => ⟨S8192x32, .bf16⟩
  | .hbm, ⟨6, _⟩ => ⟨S8192, .f32⟩
  | .hbm, ⟨7, _⟩ => ⟨S15360x2048, .bf16⟩
  | .hbm, ⟨8, _⟩ => ⟨S1x2048, .f32⟩
  | .hbm, ⟨9, _⟩ => ⟨S1x8192, .f32⟩
  | .hbm, ⟨10, _⟩ => ⟨S15360x8192, .bf16⟩
  | .hbm, ⟨11, _⟩ => ⟨S15360x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048, .f32⟩
  | .local _ .vmem, ⟨3, _⟩ => ⟨S11x1024, .f32⟩
  | .local _ .vmem, ⟨4, _⟩ => ⟨S8192x512, .i8⟩
  | .local _ .vmem, ⟨5, _⟩ => ⟨S8192x32, .bf16⟩
  | .local _ .vmem, ⟨6, _⟩ => ⟨S8192x32, .bf16⟩
  | .local _ .vmem, ⟨7, _⟩ => ⟨S1x8192, .f32⟩
  | .local _ .vmem, ⟨8, _⟩ => ⟨S256x8192, .bf16⟩
  | .local _ .vmem, ⟨9, _⟩ => ⟨S256x8192, .bf16⟩
  | .local _ .vmem, ⟨10, _⟩ => ⟨S256x2048, .bf16⟩
  | .local _ .vmem, ⟨11, _⟩ => ⟨S256x2048, .bf16⟩
  | .local _ .vmem, ⟨12, _⟩ => ⟨S8192x2048, .bf16⟩
  | .local _ .vmem, ⟨13, _⟩ => ⟨S11x8x2048, .f32⟩
  | .local _ .vmem, ⟨14, _⟩ => ⟨S11x8x2048, .f32⟩
  | _, _ => ⟨S24x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1784 : BitVec 32 := 0#32
  let c256_i32 : BitVec 32 := 256#32
  let v3962 : BitVec 32 := Scalar.addi c0_i32_1784 c256_i32
  let c1_i32_1785 : BitVec 32 := 1#32
  ⟨c0_i32_1784, v3962, c1_i32_1785⟩
def k0_mult1 (k0_t1 : Fin k0_t1_loop.trips) : BitVec 32 :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  v3965
def k0_off1 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v3968 : Index := Scalar.indexCast v3966
  let c0_1790 : Index := 0#32
  ![v3968.toNat, 0]
def k0_off2 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v3978 : Index := Scalar.indexCast v3966
  let c0_1794 : Index := 0#32
  ![v3978.toNat, 0]
def k0_off3 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4025 : Index := Scalar.indexCast v3966
  let c0_1806 : Index := 0#32
  ![v4025.toNat, 0]
def k0_off4 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4073 : Index := Scalar.indexCast v3966
  let c128_1819 : Index := 128#32
  ![v4073.toNat, 128]
def k0_off5 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4121 : Index := Scalar.indexCast v3966
  let c256_1832 : Index := 256#32
  ![v4121.toNat, 256]
def k0_off6 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4169 : Index := Scalar.indexCast v3966
  let c384_1844 : Index := 384#32
  ![v4169.toNat, 384]
def k0_off7 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4173 : Index := Scalar.indexCast v3966
  let c128_1845 : Index := 128#32
  ![v4173.toNat, 128]
def k0_off8 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4220 : Index := Scalar.indexCast v3966
  let c512_1858 : Index := 512#32
  ![v4220.toNat, 512]
def k0_off9 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4268 : Index := Scalar.indexCast v3966
  let c640_1870 : Index := 640#32
  ![v4268.toNat, 640]
def k0_off10 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4316 : Index := Scalar.indexCast v3966
  let c768_1882 : Index := 768#32
  ![v4316.toNat, 768]
def k0_off11 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4364 : Index := Scalar.indexCast v3966
  let c896_1894 : Index := 896#32
  ![v4364.toNat, 896]
def k0_off12 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4368 : Index := Scalar.indexCast v3966
  let c256_1895 : Index := 256#32
  ![v4368.toNat, 256]
def k0_off13 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4415 : Index := Scalar.indexCast v3966
  let c1024_1908 : Index := 1024#32
  ![v4415.toNat, 1024]
def k0_off14 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4463 : Index := Scalar.indexCast v3966
  let c1152_1920 : Index := 1152#32
  ![v4463.toNat, 1152]
def k0_off15 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4511 : Index := Scalar.indexCast v3966
  let c1280_1932 : Index := 1280#32
  ![v4511.toNat, 1280]
def k0_off16 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4559 : Index := Scalar.indexCast v3966
  let c1408_1944 : Index := 1408#32
  ![v4559.toNat, 1408]
def k0_off17 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4563 : Index := Scalar.indexCast v3966
  let c384_1945 : Index := 384#32
  ![v4563.toNat, 384]
def k0_off18 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4610 : Index := Scalar.indexCast v3966
  let c1536_1957 : Index := 1536#32
  ![v4610.toNat, 1536]
def k0_off19 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4658 : Index := Scalar.indexCast v3966
  let c1664_1969 : Index := 1664#32
  ![v4658.toNat, 1664]
def k0_off20 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4706 : Index := Scalar.indexCast v3966
  let c1792_1981 : Index := 1792#32
  ![v4706.toNat, 1792]
def k0_off21 (k0_t1 : Fin k0_t1_loop.trips) : Fin 2 → Nat :=
  let c0_i32_1788 : BitVec 32 := 0#32
  let c0_i32_1784 : BitVec 32 := 0#32
  let c1_i32_1785 : BitVec 32 := 1#32
  let arg13 : BitVec 32 := Scf.iv c0_i32_1784 c1_i32_1785 k0_t1
  let c1_i32_1787 : BitVec 32 := 1#32
  let v3963 : BitVec 32 := Scalar.muli arg13 c1_i32_1787
  let v3964 : BitVec 32 := Scalar.addi c0_i32_1788 v3963
  let c32_i32_1789 : BitVec 32 := 32#32
  let v3965 : BitVec 32 := Scalar.muli v3964 c32_i32_1789
  let v3966 : BitVec 32 := v3965
  let v4754 : Index := Scalar.indexCast v3966
  let c1920_1993 : Index := 1920#32
  ![v4754.toNat, 1920]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  v7
def k0_off22 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v9 : Index := Scalar.indexCast v8
  let c0 : Index := 0#32
  ![v9.toNat, 0]
def k0_off23 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v13 : Index := Scalar.indexCast v8
  let c128 : Index := 128#32
  ![v13.toNat, 128]
def k0_off24 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v17 : Index := Scalar.indexCast v8
  let c256 : Index := 256#32
  ![v17.toNat, 256]
def k0_off25 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v21 : Index := Scalar.indexCast v8
  let c384 : Index := 384#32
  ![v21.toNat, 384]
def k0_off26 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v25 : Index := Scalar.indexCast v8
  let c512 : Index := 512#32
  ![v25.toNat, 512]
def k0_off27 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v29 : Index := Scalar.indexCast v8
  let c640 : Index := 640#32
  ![v29.toNat, 640]
def k0_off28 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v33 : Index := Scalar.indexCast v8
  let c768 : Index := 768#32
  ![v33.toNat, 768]
def k0_off29 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v37 : Index := Scalar.indexCast v8
  let c896 : Index := 896#32
  ![v37.toNat, 896]
def k0_off30 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v41 : Index := Scalar.indexCast v8
  let c1024 : Index := 1024#32
  ![v41.toNat, 1024]
def k0_off31 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v45 : Index := Scalar.indexCast v8
  let c1152 : Index := 1152#32
  ![v45.toNat, 1152]
def k0_off32 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v49 : Index := Scalar.indexCast v8
  let c1280 : Index := 1280#32
  ![v49.toNat, 1280]
def k0_off33 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v53 : Index := Scalar.indexCast v8
  let c1408 : Index := 1408#32
  ![v53.toNat, 1408]
def k0_off34 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v57 : Index := Scalar.indexCast v8
  let c1536 : Index := 1536#32
  ![v57.toNat, 1536]
def k0_off35 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v61 : Index := Scalar.indexCast v8
  let c1664 : Index := 1664#32
  ![v61.toNat, 1664]
def k0_off36 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v65 : Index := Scalar.indexCast v8
  let c1792 : Index := 1792#32
  ![v65.toNat, 1792]
def k0_off37 (k0_t2 : Fin k0_t2_loop.trips) : Fin 2 → Nat :=
  let c0_i32_7 : BitVec 32 := 0#32
  let c0_i32_1 : BitVec 32 := 0#32
  let c1_i32 : BitVec 32 := 1#32
  let arg13 : BitVec 32 := Scf.iv c0_i32_1 c1_i32 k0_t2
  let c1_i32_6 : BitVec 32 := 1#32
  let v5 : BitVec 32 := Scalar.muli arg13 c1_i32_6
  let v6 : BitVec 32 := Scalar.addi c0_i32_7 v5
  let c16_i32_8 : BitVec 32 := 16#32
  let v7 : BitVec 32 := Scalar.muli v6 c16_i32_8
  let v8 : BitVec 32 := v7
  let v69 : Index := Scalar.indexCast v8
  let c1920 : Index := 1920#32
  ![v69.toNat, 1920]
@[reducible] def k0_t3_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_mult3 (k0_t3 : Fin k0_t3_loop.trips) : BitVec 32 :=
  let c0_i32_7 : BitVec 32 := 0#32
  let c0_i32_3 : BitVec 32 := 0#32
  let c1_i32_4 : BitVec 32 := 1#32
  let arg13 : BitVec 32 := Scf.iv c0_i32_3 c1_i32_4 k0_t3
  let c1_i32_6 : BitVec 32 := 1#32
  let v5 : BitVec 32 := Scalar.muli arg13 c1_i32_6
  let v6 : BitVec 32 := Scalar.addi c0_i32_7 v5
  let c1024_i32 : BitVec 32 := 1024#32
  let v7 : BitVec 32 := Scalar.muli v6 c1024_i32
  v7
def k0_off38 (k0_t3 : Fin k0_t3_loop.trips) : Fin 2 → Nat :=
  let c0_i32_7 : BitVec 32 := 0#32
  let c0_i32_3 : BitVec 32 := 0#32
  let c1_i32_4 : BitVec 32 := 1#32
  let arg13 : BitVec 32 := Scf.iv c0_i32_3 c1_i32_4 k0_t3
  let c1_i32_6 : BitVec 32 := 1#32
  let v5 : BitVec 32 := Scalar.muli arg13 c1_i32_6
  let v6 : BitVec 32 := Scalar.addi c0_i32_7 v5
  let c1024_i32 : BitVec 32 := 1024#32
  let v7 : BitVec 32 := Scalar.muli v6 c1024_i32
  let v8 : BitVec 32 := v7
  let v11 : Index := Scalar.indexCast v8
  let c0_9 : Index := 0#32
  ![v11.toNat, 0]
def k0_off39 (k0_t3 : Fin k0_t3_loop.trips) : Fin 2 → Nat :=
  let c0_10 : Index := 0#32
  let c0_i32_7 : BitVec 32 := 0#32
  let c0_i32_3 : BitVec 32 := 0#32
  let c1_i32_4 : BitVec 32 := 1#32
  let arg13 : BitVec 32 := Scf.iv c0_i32_3 c1_i32_4 k0_t3
  let c1_i32_6 : BitVec 32 := 1#32
  let v5 : BitVec 32 := Scalar.muli arg13 c1_i32_6
  let v6 : BitVec 32 := Scalar.addi c0_i32_7 v5
  let c1024_i32 : BitVec 32 := 1024#32
  let v7 : BitVec 32 := Scalar.muli v6 c1024_i32
  let v8 : BitVec 32 := v7
  let v14 : Index := Scalar.indexCast v8
  ![0, v14.toNat]
def k0_off40 (k0_t3 : Fin k0_t3_loop.trips) : Fin 2 → Nat :=
  let c0_11 : Index := 0#32
  let c0_i32_7 : BitVec 32 := 0#32
  let c0_i32_3 : BitVec 32 := 0#32
  let c1_i32_4 : BitVec 32 := 1#32
  let arg13 : BitVec 32 := Scf.iv c0_i32_3 c1_i32_4 k0_t3
  let c1_i32_6 : BitVec 32 := 1#32
  let v5 : BitVec 32 := Scalar.muli arg13 c1_i32_6
  let v6 : BitVec 32 := Scalar.addi c0_i32_7 v5
  let c1024_i32 : BitVec 32 := 1024#32
  let v7 : BitVec 32 := Scalar.muli v6 c1024_i32
  let v8 : BitVec 32 := v7
  let v20 : Index := Scalar.indexCast v8
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x512 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S24x640x2048 : Shape := ⟨3, ![24, 640, 2048]⟩
abbrev S2048 : Shape := ⟨1, ![2048]⟩
abbrev S11x1024 : Shape := ⟨2, ![11, 1024]⟩
abbrev S8192x512 : Shape := ⟨2, ![8192, 512]⟩
abbrev S8192x32 : Shape := ⟨2, ![8192, 32]⟩
abbrev S8192 : Shape := ⟨1, ![8192]⟩
abbrev S15360x2048 : Shape := ⟨2, ![15360, 2048]⟩
abbrev S1x2048 : Shape := ⟨2, ![1, 2048]⟩
abbrev S15360x1024x2x1 : Shape := ⟨4, ![15360, 1024, 2, 1]⟩
abbrev S15360x1024x1x1 : Shape := ⟨4, ![15360, 1024, 1, 1]⟩
abbrev S15360x1024x1 : Shape := ⟨3, ![15360, 1024, 1]⟩
abbrev S1x1024 : Shape := ⟨2, ![1, 1024]⟩
abbrev S1024 : Shape := ⟨1, ![1024]⟩
abbrev S1024x1 : Shape := ⟨2, ![1024, 1]⟩
abbrev S1x1024x1 : Shape := ⟨3, ![1, 1024, 1]⟩
abbrev S15360x512x2x2 : Shape := ⟨4, ![15360, 512, 2, 2]⟩
abbrev S15360x512x1x2 : Shape := ⟨4, ![15360, 512, 1, 2]⟩
abbrev S15360x512x2 : Shape := ⟨3, ![15360, 512, 2]⟩
abbrev S512x2 : Shape := ⟨2, ![512, 2]⟩
abbrev S1x512x2 : Shape := ⟨3, ![1, 512, 2]⟩
abbrev S15360x256x2x4 : Shape := ⟨4, ![15360, 256, 2, 4]⟩
abbrev S15360x256x1x4 : Shape := ⟨4, ![15360, 256, 1, 4]⟩
abbrev S15360x256x4 : Shape := ⟨3, ![15360, 256, 4]⟩
abbrev S256x4 : Shape := ⟨2, ![256, 4]⟩
abbrev S1x256x4 : Shape := ⟨3, ![1, 256, 4]⟩
abbrev S15360x128x2x8 : Shape := ⟨4, ![15360, 128, 2, 8]⟩
abbrev S15360x128x1x8 : Shape := ⟨4, ![15360, 128, 1, 8]⟩
abbrev S15360x128x8 : Shape := ⟨3, ![15360, 128, 8]⟩
abbrev S128x8 : Shape := ⟨2, ![128, 8]⟩
abbrev S1x128x8 : Shape := ⟨3, ![1, 128, 8]⟩
abbrev S15360x64x2x16 : Shape := ⟨4, ![15360, 64, 2, 16]⟩
abbrev S15360x64x1x16 : Shape := ⟨4, ![15360, 64, 1, 16]⟩
abbrev S15360x64x16 : Shape := ⟨3, ![15360, 64, 16]⟩
abbrev S64x16 : Shape := ⟨2, ![64, 16]⟩
abbrev S1x64x16 : Shape := ⟨3, ![1, 64, 16]⟩
abbrev S15360x32x2x32 : Shape := ⟨4, ![15360, 32, 2, 32]⟩
abbrev S15360x32x1x32 : Shape := ⟨4, ![15360, 32, 1, 32]⟩
abbrev S15360x32x32 : Shape := ⟨3, ![15360, 32, 32]⟩
abbrev S32x32 : Shape := ⟨2, ![32, 32]⟩
abbrev S1x32x32 : Shape := ⟨3, ![1, 32, 32]⟩
abbrev S15360x16x2x64 : Shape := ⟨4, ![15360, 16, 2, 64]⟩
abbrev S15360x16x1x64 : Shape := ⟨4, ![15360, 16, 1, 64]⟩
abbrev S15360x16x64 : Shape := ⟨3, ![15360, 16, 64]⟩
abbrev S16x64 : Shape := ⟨2, ![16, 64]⟩
abbrev S1x16x64 : Shape := ⟨3, ![1, 16, 64]⟩
abbrev S15360x8x2x128 : Shape := ⟨4, ![15360, 8, 2, 128]⟩
abbrev S15360x8x1x128 : Shape := ⟨4, ![15360, 8, 1, 128]⟩
abbrev S15360x8x128 : Shape := ⟨3, ![15360, 8, 128]⟩
abbrev S8x128 : Shape := ⟨2, ![8, 128]⟩
abbrev S1x8x128 : Shape := ⟨3, ![1, 8, 128]⟩
abbrev S15360x4x2x256 : Shape := ⟨4, ![15360, 4, 2, 256]⟩
abbrev S15360x4x1x256 : Shape := ⟨4, ![15360, 4, 1, 256]⟩
abbrev S15360x4x256 : Shape := ⟨3, ![15360, 4, 256]⟩
abbrev S4x256 : Shape := ⟨2, ![4, 256]⟩
abbrev S1x4x256 : Shape := ⟨3, ![1, 4, 256]⟩
abbrev S15360x2x2x512 : Shape := ⟨4, ![15360, 2, 2, 512]⟩
abbrev S15360x2x1x512 : Shape := ⟨4, ![15360, 2, 1, 512]⟩
abbrev S15360x2x512 : Shape := ⟨3, ![15360, 2, 512]⟩
abbrev S2x512 : Shape := ⟨2, ![2, 512]⟩
abbrev S1x2x512 : Shape := ⟨3, ![1, 2, 512]⟩
abbrev S15360x1x2x1024 : Shape := ⟨4, ![15360, 1, 2, 1024]⟩
abbrev S15360x1x1x1024 : Shape := ⟨4, ![15360, 1, 1, 1024]⟩
abbrev S15360x1x1024 : Shape := ⟨3, ![15360, 1, 1024]⟩
abbrev S1x1x1024 : Shape := ⟨3, ![1, 1, 1024]⟩
abbrev S4 : Shape := ⟨1, ![4]⟩
abbrev S_ : Shape := ⟨0, ![]⟩
abbrev S8192x512x1 : Shape := ⟨3, ![8192, 512, 1]⟩
abbrev S1x1x4 : Shape := ⟨3, ![1, 1, 4]⟩
abbrev S8192x512x4 : Shape := ⟨3, ![8192, 512, 4]⟩
abbrev S8192x32x64 : Shape := ⟨3, ![8192, 32, 64]⟩
abbrev S8192x32x1 : Shape := ⟨3, ![8192, 32, 1]⟩
abbrev S8192x2048 : Shape := ⟨2, ![8192, 2048]⟩
abbrev S15360x8192 : Shape := ⟨2, ![15360, 8192]⟩
abbrev S1x8192 : Shape := ⟨2, ![1, 8192]⟩

abbrev nBuf : Space → Nat
  | .hbm => 348
  | .vmem => 0
  | .smem => 0
  | _ => 0

abbrev hbmTy0_0 (i : Nat) : BufTy := match i % 128 with
  | 0 => ⟨S24x640x2048, .bf16⟩
  | 1 => ⟨S2048, .f32⟩
  | 2 => ⟨S11x1024, .f32⟩
  | 3 => ⟨S8192x512, .i8⟩
  | 4 => ⟨S8192x32, .bf16⟩
  | 5 => ⟨S8192x32, .bf16⟩
  | 6 => ⟨S8192, .f32⟩
  | 7 => ⟨S15360x2048, .bf16⟩
  | 8 => ⟨S15360x2048, .f32⟩
  | 9 => ⟨S1x2048, .f32⟩
  | 10 => ⟨S15360x2048, .f32⟩
  | 11 => ⟨S15360x2048, .f32⟩
  | 12 => ⟨S15360x1024x2x1, .f32⟩
  | 13 => ⟨S15360x1024x1x1, .f32⟩
  | 14 => ⟨S15360x1024x1, .f32⟩
  | 15 => ⟨S15360x1024x1x1, .f32⟩
  | 16 => ⟨S15360x1024x1, .f32⟩
  | 17 => ⟨S1x1024, .f32⟩
  | 18 => ⟨S1024, .f32⟩
  | 19 => ⟨S1024x1, .f32⟩
  | 20 => ⟨S1024x1, .f32⟩
  | 21 => ⟨S1024x1, .f32⟩
  | 22 => ⟨S1x1024x1, .f32⟩
  | 23 => ⟨S15360x1024x1, .f32⟩
  | 24 => ⟨S15360x1024x1, .f32⟩
  | 25 => ⟨S1x1024x1, .f32⟩
  | 26 => ⟨S15360x1024x1, .f32⟩
  | 27 => ⟨S15360x1024x1, .f32⟩
  | 28 => ⟨S15360x1024x1, .f32⟩
  | 29 => ⟨S1x1024x1, .f32⟩
  | 30 => ⟨S15360x1024x1, .f32⟩
  | 31 => ⟨S15360x1024x1, .f32⟩
  | 32 => ⟨S1x1024x1, .f32⟩
  | 33 => ⟨S15360x1024x1, .f32⟩
  | 34 => ⟨S15360x1024x1, .f32⟩
  | 35 => ⟨S15360x1024x1, .f32⟩
  | 36 => ⟨S15360x1024x1x1, .f32⟩
  | 37 => ⟨S15360x1024x1x1, .f32⟩
  | 38 => ⟨S15360x1024x2x1, .f32⟩
  | 39 => ⟨S15360x2048, .f32⟩
  | 40 => ⟨S15360x512x2x2, .f32⟩
  | 41 => ⟨S15360x512x1x2, .f32⟩
  | 42 => ⟨S15360x512x2, .f32⟩
  | 43 => ⟨S15360x512x1x2, .f32⟩
  | 44 => ⟨S15360x512x2, .f32⟩
  | 45 => ⟨S1x1024, .f32⟩
  | 46 => ⟨S1024, .f32⟩
  | 47 => ⟨S512x2, .f32⟩
  | 48 => ⟨S512x2, .f32⟩
  | 49 => ⟨S512x2, .f32⟩
  | 50 => ⟨S1x512x2, .f32⟩
  | 51 => ⟨S15360x512x2, .f32⟩
  | 52 => ⟨S15360x512x2, .f32⟩
  | 53 => ⟨S1x512x2, .f32⟩
  | 54 => ⟨S15360x512x2, .f32⟩
  | 55 => ⟨S15360x512x2, .f32⟩
  | 56 => ⟨S15360x512x2, .f32⟩
  | 57 => ⟨S1x512x2, .f32⟩
  | 58 => ⟨S15360x512x2, .f32⟩
  | 59 => ⟨S15360x512x2, .f32⟩
  | 60 => ⟨S1x512x2, .f32⟩
  | 61 => ⟨S15360x512x2, .f32⟩
  | 62 => ⟨S15360x512x2, .f32⟩
  | 63 => ⟨S15360x512x2, .f32⟩
  | 64 => ⟨S15360x512x1x2, .f32⟩
  | 65 => ⟨S15360x512x1x2, .f32⟩
  | 66 => ⟨S15360x512x2x2, .f32⟩
  | 67 => ⟨S15360x2048, .f32⟩
  | 68 => ⟨S15360x256x2x4, .f32⟩
  | 69 => ⟨S15360x256x1x4, .f32⟩
  | 70 => ⟨S15360x256x4, .f32⟩
  | 71 => ⟨S15360x256x1x4, .f32⟩
  | 72 => ⟨S15360x256x4, .f32⟩
  | 73 => ⟨S1x1024, .f32⟩
  | 74 => ⟨S1024, .f32⟩
  | 75 => ⟨S256x4, .f32⟩
  | 76 => ⟨S256x4, .f32⟩
  | 77 => ⟨S256x4, .f32⟩
  | 78 => ⟨S1x256x4, .f32⟩
  | 79 => ⟨S15360x256x4, .f32⟩
  | 80 => ⟨S15360x256x4, .f32⟩
  | 81 => ⟨S1x256x4, .f32⟩
  | 82 => ⟨S15360x256x4, .f32⟩
  | 83 => ⟨S15360x256x4, .f32⟩
  | 84 => ⟨S15360x256x4, .f32⟩
  | 85 => ⟨S1x256x4, .f32⟩
  | 86 => ⟨S15360x256x4, .f32⟩
  | 87 => ⟨S15360x256x4, .f32⟩
  | 88 => ⟨S1x256x4, .f32⟩
  | 89 => ⟨S15360x256x4, .f32⟩
  | 90 => ⟨S15360x256x4, .f32⟩
  | 91 => ⟨S15360x256x4, .f32⟩
  | 92 => ⟨S15360x256x1x4, .f32⟩
  | 93 => ⟨S15360x256x1x4, .f32⟩
  | 94 => ⟨S15360x256x2x4, .f32⟩
  | 95 => ⟨S15360x2048, .f32⟩
  | 96 => ⟨S15360x128x2x8, .f32⟩
  | 97 => ⟨S15360x128x1x8, .f32⟩
  | 98 => ⟨S15360x128x8, .f32⟩
  | 99 => ⟨S15360x128x1x8, .f32⟩
  | 100 => ⟨S15360x128x8, .f32⟩
  | 101 => ⟨S1x1024, .f32⟩
  | 102 => ⟨S1024, .f32⟩
  | 103 => ⟨S128x8, .f32⟩
  | 104 => ⟨S128x8, .f32⟩
  | 105 => ⟨S128x8, .f32⟩
  | 106 => ⟨S1x128x8, .f32⟩
  | 107 => ⟨S15360x128x8, .f32⟩
  | 108 => ⟨S15360x128x8, .f32⟩
  | 109 => ⟨S1x128x8, .f32⟩
  | 110 => ⟨S15360x128x8, .f32⟩
  | 111 => ⟨S15360x128x8, .f32⟩
  | 112 => ⟨S15360x128x8, .f32⟩
  | 113 => ⟨S1x128x8, .f32⟩
  | 114 => ⟨S15360x128x8, .f32⟩
  | 115 => ⟨S15360x128x8, .f32⟩
  | 116 => ⟨S1x128x8, .f32⟩
  | 117 => ⟨S15360x128x8, .f32⟩
  | 118 => ⟨S15360x128x8, .f32⟩
  | 119 => ⟨S15360x128x8, .f32⟩
  | 120 => ⟨S15360x128x1x8, .f32⟩
  | 121 => ⟨S15360x128x1x8, .f32⟩
  | 122 => ⟨S15360x128x2x8, .f32⟩
  | 123 => ⟨S15360x2048, .f32⟩
  | 124 => ⟨S15360x64x2x16, .f32⟩
  | 125 => ⟨S15360x64x1x16, .f32⟩
  | 126 => ⟨S15360x64x16, .f32⟩
  | 127 => ⟨S15360x64x1x16, .f32⟩
  | _ => ⟨S24x640x2048, .bf16⟩

abbrev hbmTy0_1 (i : Nat) : BufTy := match i % 128 with
  | 0 => ⟨S15360x64x16, .f32⟩
  | 1 => ⟨S1x1024, .f32⟩
  | 2 => ⟨S1024, .f32⟩
  | 3 => ⟨S64x16, .f32⟩
  | 4 => ⟨S64x16, .f32⟩
  | 5 => ⟨S64x16, .f32⟩
  | 6 => ⟨S1x64x16, .f32⟩
  | 7 => ⟨S15360x64x16, .f32⟩
  | 8 => ⟨S15360x64x16, .f32⟩
  | 9 => ⟨S1x64x16, .f32⟩
  | 10 => ⟨S15360x64x16, .f32⟩
  | 11 => ⟨S15360x64x16, .f32⟩
  | 12 => ⟨S15360x64x16, .f32⟩
  | 13 => ⟨S1x64x16, .f32⟩
  | 14 => ⟨S15360x64x16, .f32⟩
  | 15 => ⟨S15360x64x16, .f32⟩
  | 16 => ⟨S1x64x16, .f32⟩
  | 17 => ⟨S15360x64x16, .f32⟩
  | 18 => ⟨S15360x64x16, .f32⟩
  | 19 => ⟨S15360x64x16, .f32⟩
  | 20 => ⟨S15360x64x1x16, .f32⟩
  | 21 => ⟨S15360x64x1x16, .f32⟩
  | 22 => ⟨S15360x64x2x16, .f32⟩
  | 23 => ⟨S15360x2048, .f32⟩
  | 24 => ⟨S15360x32x2x32, .f32⟩
  | 25 => ⟨S15360x32x1x32, .f32⟩
  | 26 => ⟨S15360x32x32, .f32⟩
  | 27 => ⟨S15360x32x1x32, .f32⟩
  | 28 => ⟨S15360x32x32, .f32⟩
  | 29 => ⟨S1x1024, .f32⟩
  | 30 => ⟨S1024, .f32⟩
  | 31 => ⟨S32x32, .f32⟩
  | 32 => ⟨S32x32, .f32⟩
  | 33 => ⟨S32x32, .f32⟩
  | 34 => ⟨S1x32x32, .f32⟩
  | 35 => ⟨S15360x32x32, .f32⟩
  | 36 => ⟨S15360x32x32, .f32⟩
  | 37 => ⟨S1x32x32, .f32⟩
  | 38 => ⟨S15360x32x32, .f32⟩
  | 39 => ⟨S15360x32x32, .f32⟩
  | 40 => ⟨S15360x32x32, .f32⟩
  | 41 => ⟨S1x32x32, .f32⟩
  | 42 => ⟨S15360x32x32, .f32⟩
  | 43 => ⟨S15360x32x32, .f32⟩
  | 44 => ⟨S1x32x32, .f32⟩
  | 45 => ⟨S15360x32x32, .f32⟩
  | 46 => ⟨S15360x32x32, .f32⟩
  | 47 => ⟨S15360x32x32, .f32⟩
  | 48 => ⟨S15360x32x1x32, .f32⟩
  | 49 => ⟨S15360x32x1x32, .f32⟩
  | 50 => ⟨S15360x32x2x32, .f32⟩
  | 51 => ⟨S15360x2048, .f32⟩
  | 52 => ⟨S15360x16x2x64, .f32⟩
  | 53 => ⟨S15360x16x1x64, .f32⟩
  | 54 => ⟨S15360x16x64, .f32⟩
  | 55 => ⟨S15360x16x1x64, .f32⟩
  | 56 => ⟨S15360x16x64, .f32⟩
  | 57 => ⟨S1x1024, .f32⟩
  | 58 => ⟨S1024, .f32⟩
  | 59 => ⟨S16x64, .f32⟩
  | 60 => ⟨S16x64, .f32⟩
  | 61 => ⟨S16x64, .f32⟩
  | 62 => ⟨S1x16x64, .f32⟩
  | 63 => ⟨S15360x16x64, .f32⟩
  | 64 => ⟨S15360x16x64, .f32⟩
  | 65 => ⟨S1x16x64, .f32⟩
  | 66 => ⟨S15360x16x64, .f32⟩
  | 67 => ⟨S15360x16x64, .f32⟩
  | 68 => ⟨S15360x16x64, .f32⟩
  | 69 => ⟨S1x16x64, .f32⟩
  | 70 => ⟨S15360x16x64, .f32⟩
  | 71 => ⟨S15360x16x64, .f32⟩
  | 72 => ⟨S1x16x64, .f32⟩
  | 73 => ⟨S15360x16x64, .f32⟩
  | 74 => ⟨S15360x16x64, .f32⟩
  | 75 => ⟨S15360x16x64, .f32⟩
  | 76 => ⟨S15360x16x1x64, .f32⟩
  | 77 => ⟨S15360x16x1x64, .f32⟩
  | 78 => ⟨S15360x16x2x64, .f32⟩
  | 79 => ⟨S15360x2048, .f32⟩
  | 80 => ⟨S15360x8x2x128, .f32⟩
  | 81 => ⟨S15360x8x1x128, .f32⟩
  | 82 => ⟨S15360x8x128, .f32⟩
  | 83 => ⟨S15360x8x1x128, .f32⟩
  | 84 => ⟨S15360x8x128, .f32⟩
  | 85 => ⟨S1x1024, .f32⟩
  | 86 => ⟨S1024, .f32⟩
  | 87 => ⟨S8x128, .f32⟩
  | 88 => ⟨S8x128, .f32⟩
  | 89 => ⟨S8x128, .f32⟩
  | 90 => ⟨S1x8x128, .f32⟩
  | 91 => ⟨S15360x8x128, .f32⟩
  | 92 => ⟨S15360x8x128, .f32⟩
  | 93 => ⟨S1x8x128, .f32⟩
  | 94 => ⟨S15360x8x128, .f32⟩
  | 95 => ⟨S15360x8x128, .f32⟩
  | 96 => ⟨S15360x8x128, .f32⟩
  | 97 => ⟨S1x8x128, .f32⟩
  | 98 => ⟨S15360x8x128, .f32⟩
  | 99 => ⟨S15360x8x128, .f32⟩
  | 100 => ⟨S1x8x128, .f32⟩
  | 101 => ⟨S15360x8x128, .f32⟩
  | 102 => ⟨S15360x8x128, .f32⟩
  | 103 => ⟨S15360x8x128, .f32⟩
  | 104 => ⟨S15360x8x1x128, .f32⟩
  | 105 => ⟨S15360x8x1x128, .f32⟩
  | 106 => ⟨S15360x8x2x128, .f32⟩
  | 107 => ⟨S15360x2048, .f32⟩
  | 108 => ⟨S15360x4x2x256, .f32⟩
  | 109 => ⟨S15360x4x1x256, .f32⟩
  | 110 => ⟨S15360x4x256, .f32⟩
  | 111 => ⟨S15360x4x1x256, .f32⟩
  | 112 => ⟨S15360x4x256, .f32⟩
  | 113 => ⟨S1x1024, .f32⟩
  | 114 => ⟨S1024, .f32⟩
  | 115 => ⟨S4x256, .f32⟩
  | 116 => ⟨S4x256, .f32⟩
  | 117 => ⟨S4x256, .f32⟩
  | 118 => ⟨S1x4x256, .f32⟩
  | 119 => ⟨S15360x4x256, .f32⟩
  | 120 => ⟨S15360x4x256, .f32⟩
  | 121 => ⟨S1x4x256, .f32⟩
  | 122 => ⟨S15360x4x256, .f32⟩
  | 123 => ⟨S15360x4x256, .f32⟩
  | 124 => ⟨S15360x4x256, .f32⟩
  | 125 => ⟨S1x4x256, .f32⟩
  | 126 => ⟨S15360x4x256, .f32⟩
  | 127 => ⟨S15360x4x256, .f32⟩
  | _ => ⟨S24x640x2048, .bf16⟩

abbrev hbmTy0_2 (i : Nat) : BufTy := match i % 128 with
  | 0 => ⟨S1x4x256, .f32⟩
  | 1 => ⟨S15360x4x256, .f32⟩
  | 2 => ⟨S15360x4x256, .f32⟩
  | 3 => ⟨S15360x4x256, .f32⟩
  | 4 => ⟨S15360x4x1x256, .f32⟩
  | 5 => ⟨S15360x4x1x256, .f32⟩
  | 6 => ⟨S15360x4x2x256, .f32⟩
  | 7 => ⟨S15360x2048, .f32⟩
  | 8 => ⟨S15360x2x2x512, .f32⟩
  | 9 => ⟨S15360x2x1x512, .f32⟩
  | 10 => ⟨S15360x2x512, .f32⟩
  | 11 => ⟨S15360x2x1x512, .f32⟩
  | 12 => ⟨S15360x2x512, .f32⟩
  | 13 => ⟨S1x1024, .f32⟩
  | 14 => ⟨S1024, .f32⟩
  | 15 => ⟨S2x512, .f32⟩
  | 16 => ⟨S2x512, .f32⟩
  | 17 => ⟨S2x512, .f32⟩
  | 18 => ⟨S1x2x512, .f32⟩
  | 19 => ⟨S15360x2x512, .f32⟩
  | 20 => ⟨S15360x2x512, .f32⟩
  | 21 => ⟨S1x2x512, .f32⟩
  | 22 => ⟨S15360x2x512, .f32⟩
  | 23 => ⟨S15360x2x512, .f32⟩
  | 24 => ⟨S15360x2x512, .f32⟩
  | 25 => ⟨S1x2x512, .f32⟩
  | 26 => ⟨S15360x2x512, .f32⟩
  | 27 => ⟨S15360x2x512, .f32⟩
  | 28 => ⟨S1x2x512, .f32⟩
  | 29 => ⟨S15360x2x512, .f32⟩
  | 30 => ⟨S15360x2x512, .f32⟩
  | 31 => ⟨S15360x2x512, .f32⟩
  | 32 => ⟨S15360x2x1x512, .f32⟩
  | 33 => ⟨S15360x2x1x512, .f32⟩
  | 34 => ⟨S15360x2x2x512, .f32⟩
  | 35 => ⟨S15360x2048, .f32⟩
  | 36 => ⟨S15360x1x2x1024, .f32⟩
  | 37 => ⟨S15360x1x1x1024, .f32⟩
  | 38 => ⟨S15360x1x1024, .f32⟩
  | 39 => ⟨S15360x1x1x1024, .f32⟩
  | 40 => ⟨S15360x1x1024, .f32⟩
  | 41 => ⟨S1x1024, .f32⟩
  | 42 => ⟨S1024, .f32⟩
  | 43 => ⟨S1x1024, .f32⟩
  | 44 => ⟨S1x1024, .f32⟩
  | 45 => ⟨S1x1024, .f32⟩
  | 46 => ⟨S1x1x1024, .f32⟩
  | 47 => ⟨S15360x1x1024, .f32⟩
  | 48 => ⟨S15360x1x1024, .f32⟩
  | 49 => ⟨S1x1x1024, .f32⟩
  | 50 => ⟨S15360x1x1024, .f32⟩
  | 51 => ⟨S15360x1x1024, .f32⟩
  | 52 => ⟨S15360x1x1024, .f32⟩
  | 53 => ⟨S1x1x1024, .f32⟩
  | 54 => ⟨S15360x1x1024, .f32⟩
  | 55 => ⟨S15360x1x1024, .f32⟩
  | 56 => ⟨S1x1x1024, .f32⟩
  | 57 => ⟨S15360x1x1024, .f32⟩
  | 58 => ⟨S15360x1x1024, .f32⟩
  | 59 => ⟨S15360x1x1024, .f32⟩
  | 60 => ⟨S15360x1x1x1024, .f32⟩
  | 61 => ⟨S15360x1x1x1024, .f32⟩
  | 62 => ⟨S15360x1x2x1024, .f32⟩
  | 63 => ⟨S15360x2048, .f32⟩
  | 64 => ⟨S15360x2048, .bf16⟩
  | 65 => ⟨S4, .i32⟩
  | 66 => ⟨S_, .i32⟩
  | 67 => ⟨S4, .i32⟩
  | 68 => ⟨S4, .i32⟩
  | 69 => ⟨S8192x512, .i32⟩
  | 70 => ⟨S8192x512x1, .i32⟩
  | 71 => ⟨S1x1x4, .i32⟩
  | 72 => ⟨S8192x512x4, .i32⟩
  | 73 => ⟨S8192x512x4, .i32⟩
  | 74 => ⟨S8192x512x4, .i32⟩
  | 75 => ⟨S_, .i32⟩
  | 76 => ⟨S8192x512x4, .i32⟩
  | 77 => ⟨S8192x512x4, .i32⟩
  | 78 => ⟨S8192x512x4, .bf16⟩
  | 79 => ⟨S8192x32x64, .bf16⟩
  | 80 => ⟨S8192x32x1, .bf16⟩
  | 81 => ⟨S8192x32x64, .bf16⟩
  | 82 => ⟨S8192x32x64, .bf16⟩
  | 83 => ⟨S8192x32x1, .bf16⟩
  | 84 => ⟨S8192x32x64, .bf16⟩
  | 85 => ⟨S8192x32x64, .bf16⟩
  | 86 => ⟨S8192x2048, .bf16⟩
  | 87 => ⟨S15360x8192, .f32⟩
  | 88 => ⟨S1x8192, .f32⟩
  | 89 => ⟨S15360x8192, .f32⟩
  | 90 => ⟨S15360x8192, .f32⟩
  | 91 => ⟨S15360x8192, .bf16⟩
  | _ => ⟨S24x640x2048, .bf16⟩

abbrev hbmTy (i : Nat) : BufTy := match i / 128 with
  | 0 => hbmTy0_0 i
  | 1 => hbmTy0_1 i
  | 2 => hbmTy0_2 i
  | _ => ⟨S24x640x2048, .bf16⟩

abbrev bufTy : (tb : Table) → Fin (tcTables nBuf tb) → BufTy
  | .hbm, ⟨i, _⟩ => hbmTy i
  | _, _ => ⟨S24x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩
abbrev main_v259 : Ref sig .tc := ⟨.hbm, 266, rfl⟩
abbrev main_v260 : Ref sig .tc := ⟨.hbm, 267, rfl⟩
abbrev main_v261 : Ref sig .tc := ⟨.hbm, 268, rfl⟩
abbrev main_v262 : Ref sig .tc := ⟨.hbm, 269, rfl⟩
abbrev main_v263 : Ref sig .tc := ⟨.hbm, 270, rfl⟩
abbrev main_v264 : Ref sig .tc := ⟨.hbm, 271, rfl⟩
abbrev main_v265 : Ref sig .tc := ⟨.hbm, 272, rfl⟩
abbrev main_v266 : Ref sig .tc := ⟨.hbm, 273, rfl⟩
abbrev main_v267 : Ref sig .tc := ⟨.hbm, 274, rfl⟩
abbrev main_v268 : Ref sig .tc := ⟨.hbm, 275, rfl⟩
abbrev main_v269 : Ref sig .tc := ⟨.hbm, 276, rfl⟩
abbrev main_v270 : Ref sig .tc := ⟨.hbm, 277, rfl⟩
abbrev main_v271 : Ref sig .tc := ⟨.hbm, 278, rfl⟩
abbrev main_v272 : Ref sig .tc := ⟨.hbm, 279, rfl⟩
abbrev main_v273 : Ref sig .tc := ⟨.hbm, 280, rfl⟩
abbrev main_v274 : Ref sig .tc := ⟨.hbm, 281, rfl⟩
abbrev main_v275 : Ref sig .tc := ⟨.hbm, 282, rfl⟩
abbrev main_v276 : Ref sig .tc := ⟨.hbm, 283, rfl⟩
abbrev main_v277 : Ref sig .tc := ⟨.hbm, 284, rfl⟩
abbrev main_v278 : Ref sig .tc := ⟨.hbm, 285, rfl⟩
abbrev main_v279 : Ref sig .tc := ⟨.hbm, 286, rfl⟩
abbrev main_v280 : Ref sig .tc := ⟨.hbm, 287, rfl⟩
abbrev main_v281 : Ref sig .tc := ⟨.hbm, 288, rfl⟩
abbrev main_v282 : Ref sig .tc := ⟨.hbm, 289, rfl⟩
abbrev main_v283 : Ref sig .tc := ⟨.hbm, 290, rfl⟩
abbrev main_v284 : Ref sig .tc := ⟨.hbm, 291, rfl⟩
abbrev main_v285 : Ref sig .tc := ⟨.hbm, 292, rfl⟩
abbrev main_v286 : Ref sig .tc := ⟨.hbm, 293, rfl⟩
abbrev main_v287 : Ref sig .tc := ⟨.hbm, 294, rfl⟩
abbrev main_v288 : Ref sig .tc := ⟨.hbm, 295, rfl⟩
abbrev main_v289 : Ref sig .tc := ⟨.hbm, 296, rfl⟩
abbrev main_v290 : Ref sig .tc := ⟨.hbm, 297, rfl⟩
abbrev main_v291 : Ref sig .tc := ⟨.hbm, 298, rfl⟩
abbrev main_v292 : Ref sig .tc := ⟨.hbm, 299, rfl⟩
abbrev main_v293 : Ref sig .tc := ⟨.hbm, 300, rfl⟩
abbrev main_v294 : Ref sig .tc := ⟨.hbm, 301, rfl⟩
abbrev main_v295 : Ref sig .tc := ⟨.hbm, 302, rfl⟩
abbrev main_v296 : Ref sig .tc := ⟨.hbm, 303, rfl⟩
abbrev main_v297 : Ref sig .tc := ⟨.hbm, 304, rfl⟩
abbrev main_v298 : Ref sig .tc := ⟨.hbm, 305, rfl⟩
abbrev main_v299 : Ref sig .tc := ⟨.hbm, 306, rfl⟩
abbrev main_v300 : Ref sig .tc := ⟨.hbm, 307, rfl⟩
abbrev main_v301 : Ref sig .tc := ⟨.hbm, 308, rfl⟩
abbrev main_v302 : Ref sig .tc := ⟨.hbm, 309, rfl⟩
abbrev main_v303 : Ref sig .tc := ⟨.hbm, 310, rfl⟩
abbrev main_v304 : Ref sig .tc := ⟨.hbm, 311, rfl⟩
abbrev main_v305 : Ref sig .tc := ⟨.hbm, 312, rfl⟩
abbrev main_v306 : Ref sig .tc := ⟨.hbm, 313, rfl⟩
abbrev main_v307 : Ref sig .tc := ⟨.hbm, 314, rfl⟩
abbrev main_v308 : Ref sig .tc := ⟨.hbm, 315, rfl⟩
abbrev main_v309 : Ref sig .tc := ⟨.hbm, 316, rfl⟩
abbrev main_v310 : Ref sig .tc := ⟨.hbm, 317, rfl⟩
abbrev main_v311 : Ref sig .tc := ⟨.hbm, 318, rfl⟩
abbrev main_v312 : Ref sig .tc := ⟨.hbm, 319, rfl⟩
abbrev main_v313 : Ref sig .tc := ⟨.hbm, 320, rfl⟩
abbrev main_v314 : Ref sig .tc := ⟨.hbm, 321, rfl⟩
abbrev main_c : Ref sig .tc := ⟨.hbm, 322, rfl⟩
abbrev main_v315 : Ref sig .tc := ⟨.hbm, 323, rfl⟩
abbrev main_v316 : Ref sig .tc := ⟨.hbm, 324, rfl⟩
abbrev main_v317 : Ref sig .tc := ⟨.hbm, 325, rfl⟩
abbrev main_v318 : Ref sig .tc := ⟨.hbm, 326, rfl⟩
abbrev main_v319 : Ref sig .tc := ⟨.hbm, 327, rfl⟩
abbrev main_v320 : Ref sig .tc := ⟨.hbm, 328, rfl⟩
abbrev main_v321 : Ref sig .tc := ⟨.hbm, 329, rfl⟩
abbrev main_v322 : Ref sig .tc := ⟨.hbm, 330, rfl⟩
abbrev main_c_0 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩

abbrev nD : Nat := 1
abbrev τ : Topo := Topo.v7x

variable {F : FTy → Type} [FloatOps F]
-- ==== Proof.WordsRunA.lean ====
/- The first grid point's run of the kernel body over any floats, for the program read on words: the pieces every buffer ends with, and
   the proof that the body ends there.  It follows the generated run, with one step of its own: before the pieces of
   the product are handed over, the contents of the rotated-row block and of the weight table (written
   over something arbitrary) are rewritten as the contents their pieces determine, since the pieces cover them. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer written by pieces that cover it holds what the pieces determine, whatever it held before. -/
theorem writes_whole {κ : Kind} {sp : Space} {s : Shape} {e : EltTy} {M : Memref sig κ sp s e} (h : M.IsWhole)
    (f : M.view.ty.Contents (Elt F)) (L : List (View.Piece (Elt F) s e)) (hL : ∀ y, ∃ p ∈ L, y ∈ p.1.set) :
    M.view.writes (Elt F) f L = h.unread (View.canon L) :=
  h.eq_unread (View.read_writes_eq_canon _ _ _ hL)

set_option maxHeartbeats 5392000 in
/-- What the body leaves in each output, in the weight table and in the two coefficient tables at the first grid point, as pieces (last first),
    with the proof that the body, run on whole buffers, ends with exactly these. -/
noncomputable def kernelRun0_A (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) :
    Σ' (L7 : List (View.Piece (Elt F) S256x8192 .bf16)), Σ' (L8 : List (View.Piece (Elt F) S256x2048 .bf16)), Σ' (LS0 : List (View.Piece (Elt F) S8192x2048 .bf16)), Σ' (LS1 : List (View.Piece (Elt F) S11x8x2048 .f32)), { LS2 : List (View.Piece (Elt F) S11x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_butterfly_w2 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_butterfly_w2_eq_skeleton]; unfold cc0_butterfly_w2_skel
    simp only [k0_part120_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · rw [writes_whole harg9 f8, writes_whole harg10 fs0]
      rotate_left
      · exact View.cover_of_tiledL _ S32x128.size (by sl_kernel_rfl)
      · exact View.cover_of_tiledL _ S16x128.size (by sl_kernel_rfl)
      iexists _; iexact H7
    isplitl [H8]; · iexists _; iexact H8
    isplitl [HS0]; · iexists _; iexact HS0
    isplitl [HS1]; · iexists _; iexact HS1
    iexists _; iexact HS2

end Cert.Kernel.Gen

end
-- ==== Proof.WordsRunB.lean ====
/- The run of the kernel body over any floats, for the program read on words at a grid point after the first, where the tables and the weight table are
   found as the first point left them.  It follows the generated run, with the contents of the rotated-row block
   rewritten as the contents its pieces determine. -/
module

public import proofs.«01_k».proof.Proof.WordsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body leaves in each output at a later grid point, as pieces (last first), with the proof that the body, run on
    whole buffers, ends with exactly these and leaves the weight table and the coefficient tables as they were. -/
noncomputable def kernelRun0_B (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) :
    Σ' (L7 : List (View.Piece (Elt F) S256x8192 .bf16)), Σ' (L8 : List (View.Piece (Elt F) S256x2048 .bf16)), Σ' (LS0 : List (View.Piece (Elt F) S8192x2048 .bf16)), Σ' (LS1 : List (View.Piece (Elt F) S11x8x2048 .f32)), { LS2 : List (View.Piece (Elt F) S11x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_butterfly_w2 i arg1 harg1 arg2 harg2 arg3 harg3 arg4 harg4 arg5 harg5 arg6 harg6 arg7 harg7 arg8 harg8 arg9 harg9 arg10 harg10 arg11 harg11 arg12 harg12) K } := by
  refine ⟨?_, ?_, [], [], [], fun E K => ?run⟩
  case run =>
    simp only [cc0_butterfly_w2_eq_skeleton]; unfold cc0_butterfly_w2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg11.eq_unread hfs1; obtain rfl := harg12.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · rw [writes_whole harg9 f8]
      rotate_left
      · exact View.cover_of_tiledL _ S16x128.size (by sl_kernel_rfl)
      iexists _; iexact H7
    isplitl [H8]; · iexists _; iexact H8
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Kernel.Gen

end
-- ==== Proof.WordsFrame.lean ====
/- The frame of the kernel over any floats, for the program read on words, following the generated one over this proof's own runs of the body
   (WordsRunA.lean, WordsRunB.lean): what the outputs and the kept tables hold after each grid point, the body's obligation, the
   run of the whole program and that it ends with its arguments as they were. -/
module

public import proofs.«01_k».proof.Proof.WordsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (8 stores of `S256x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S256x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S256x1024.size (by sl_kernel_rfl) y

/-- What case A leaves in output 7's staging buffer: its pieces read back over junk. -/
def out0_A_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S256x8192 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (256 stores of `S16x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S16x128.size (by sl_kernel_rfl) y

/-- What case A leaves in output 8's staging buffer: its pieces read back over junk. -/
def out0_A_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S256x2048 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for scratch `arg10`, which the kernel carries between points, cover it: 4096 pieces of `S32x128` tiling it (Lib/Ring.lean `Piece.tiledL`). -/
theorem scover0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S8192x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S32x128.size (by sl_kernel_rfl) y

/-- What case A leaves in scratch `arg10`: its pieces read back over junk. -/
def sout0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S8192x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for scratch `arg11`, which the kernel carries between points, cover it: 176 pieces of `S1x8x128` tiling it (Lib/Ring.lean `Piece.tiledL`). -/
theorem scover0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S11x8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S1x8x128.size (by sl_kernel_rfl) y

/-- What case A leaves in scratch `arg11`: its pieces read back over junk. -/
def sout0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S11x8x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: 176 pieces of `S1x8x128` tiling it (Lib/Ring.lean `Piece.tiledL`). -/
theorem scover0_A_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S11x8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 S1x8x128.size (by sl_kernel_rfl) y

/-- What case A leaves in scratch `arg12`: its pieces read back over junk. -/
def sout0_A_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S11x8x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (8 stores of `S256x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) (y : S256x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1 S256x1024.size (by sl_kernel_rfl) y

/-- What case B leaves in output 7's staging buffer: its pieces read back over junk. -/
def out0_B_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S256x8192 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1)

/-- Case B's pieces for output 8 tile its block (256 stores of `S16x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1 S16x128.size (by sl_kernel_rfl) y

/-- What case B leaves in output 8's staging buffer: its pieces read back over junk. -/
def out0_B_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S256x2048 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1)

/-- Case B stores nothing into scratch `arg10`: it holds what the point before left. -/
def sout0_B_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S8192x2048 .bf16 := xs0

/-- Case B stores nothing into scratch `arg11`: it holds what the point before left. -/
def sout0_B_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S11x8x2048 .f32 := xs1

/-- Case B stores nothing into scratch `arg12`: it holds what the point before left. -/
def sout0_B_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S11x8x2048 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x8192 .bf16 × Vec F S256x2048 .bf16 × Vec F S8192x2048 .bf16 × Vec F S11x8x2048 .f32 × Vec F S11x8x2048 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 60 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 60 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 60 := lt_of_lt_of_eq t.isLt (show cfg0.N = 60 from N_0)
  by_cases h0 : t.val % 60 = 0
  · by_cases hz : t.val = 0
    · rw [PhiS_castSucc m c t, PhiS_zero m c _ _ hz, PhiA0_eq]
      rw [outsAt0_A m c t h0]
      unfold out0_A_7 out0_A_8 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, ⟨%e7, H7⟩, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _)
    · exfalso; have hN : t.val < 60 := lt_of_lt_of_eq t.isLt (show cfg0.N = 60 from N_0); omega
  · by_cases hz : t.val = 0
    · exfalso; have hN : t.val < 60 := lt_of_lt_of_eq t.isLt (show cfg0.N = 60 from N_0); omega
    · rw [PhiS_castSucc m c t, PhiS_pos m c _ _ hz]
      rw [outsAt0_B m c t h0]
      unfold out0_B_7 out0_B_8 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 60 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.RunA.lean ====
/- The first grid point's run of the kernel body over the extended reals: the pieces every buffer ends with, and
   the proof that the body ends there.  It follows the generated run, with one step of its own: before the pieces of
   the product are handed over, the contents of the rotated-row block and of the weight table (written
   over something arbitrary) are rewritten as the contents their pieces determine, since the pieces cover them. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer written by pieces that cover it holds what the pieces determine, whatever it held before. -/
theorem writes_whole {κ : Kind} {sp : Space} {s : Shape} {e : EltTy} {M : Memref sig κ sp s e} (h : M.IsWhole)
    (f : M.view.ty.Contents (Elt F)) (L : List (View.Piece (Elt F) s e)) (hL : ∀ y, ∃ p ∈ L, y ∈ p.1.set) :
    M.view.writes (Elt F) f L = h.unread (View.canon L) :=
  h.eq_unread (View.read_writes_eq_canon _ _ _ hL)

set_option maxHeartbeats 5392000 in
/-- What the body leaves in each output, in the weight table and in the two coefficient tables at the first grid point, as pieces (last first),
    with the proof that the body, run on whole buffers, ends with exactly these. -/
noncomputable def kernelRun0_A (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) :
    Σ' (L7 : List (View.Piece (Elt F) S256x8192 .bf16)), Σ' (L8 : List (View.Piece (Elt F) S256x2048 .bf16)), Σ' (LS0 : List (View.Piece (Elt F) S8192x2048 .bf16)), Σ' (LS1 : List (View.Piece (Elt F) S11x8x2048 .f32)), { LS2 : List (View.Piece (Elt F) S11x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_butterfly_w2 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_butterfly_w2_eq_skeleton]; unfold cc0_butterfly_w2_skel
    simp only [k0_part120_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · rw [writes_whole harg9 f8, writes_whole harg10 fs0]
      rotate_left
      · exact View.cover_of_tiledL _ S32x128.size (by sl_kernel_rfl)
      · exact View.cover_of_tiledL _ S16x128.size (by sl_kernel_rfl)
      iexists _; iexact H7
    isplitl [H8]; · iexists _; iexact H8
    isplitl [HS0]; · iexists _; iexact HS0
    isplitl [HS1]; · iexists _; iexact HS1
    iexists _; iexact HS2

end Cert.KernelIdeal.Gen

end
-- ==== Proof.RunB.lean ====
/- The run of the kernel body over the extended reals at a grid point after the first, where the tables and the weight table are
   found as the first point left them.  It follows the generated run, with the contents of the rotated-row block
   rewritten as the contents its pieces determine. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body leaves in each output at a later grid point, as pieces (last first), with the proof that the body, run on
    whole buffers, ends with exactly these and leaves the weight table and the coefficient tables as they were. -/
noncomputable def kernelRun0_B (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) :
    Σ' (L7 : List (View.Piece (Elt F) S256x8192 .bf16)), Σ' (L8 : List (View.Piece (Elt F) S256x2048 .bf16)), Σ' (LS0 : List (View.Piece (Elt F) S8192x2048 .bf16)), Σ' (LS1 : List (View.Piece (Elt F) S11x8x2048 .f32)), { LS2 : List (View.Piece (Elt F) S11x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_butterfly_w2 i arg1 harg1 arg2 harg2 arg3 harg3 arg4 harg4 arg5 harg5 arg6 harg6 arg7 harg7 arg8 harg8 arg9 harg9 arg10 harg10 arg11 harg11 arg12 harg12) K } := by
  refine ⟨?_, ?_, [], [], [], fun E K => ?run⟩
  case run =>
    simp only [cc0_butterfly_w2_eq_skeleton]; unfold cc0_butterfly_w2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg11.eq_unread hfs1; obtain rfl := harg12.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · rw [writes_whole harg9 f8]
      rotate_left
      · exact View.cover_of_tiledL _ S16x128.size (by sl_kernel_rfl)
      iexists _; iexact H7
    isplitl [H8]; · iexists _; iexact H8
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Gen

end
-- ==== Proof.Frame.lean ====
/- The frame of the kernel over the extended reals, following the generated one over this proof's own runs of the body
   (RunA.lean, RunB.lean): what the outputs and the kept tables hold after each grid point, the body's obligation, the
   run of the whole program and that it ends with its arguments as they were. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (8 stores of `S256x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S256x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S256x1024.size (by sl_kernel_rfl) y

/-- What case A leaves in output 7's staging buffer: its pieces read back over junk. -/
def out0_A_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S256x8192 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (256 stores of `S16x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S16x128.size (by sl_kernel_rfl) y

/-- What case A leaves in output 8's staging buffer: its pieces read back over junk. -/
def out0_A_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S256x2048 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for scratch `arg10`, which the kernel carries between points, cover it: 4096 pieces of `S32x128` tiling it (Lib/Ring.lean `Piece.tiledL`). -/
theorem scover0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S8192x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S32x128.size (by sl_kernel_rfl) y

/-- What case A leaves in scratch `arg10`: its pieces read back over junk. -/
def sout0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S8192x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for scratch `arg11`, which the kernel carries between points, cover it: 176 pieces of `S1x8x128` tiling it (Lib/Ring.lean `Piece.tiledL`). -/
theorem scover0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S11x8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S1x8x128.size (by sl_kernel_rfl) y

/-- What case A leaves in scratch `arg11`: its pieces read back over junk. -/
def sout0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S11x8x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: 176 pieces of `S1x8x128` tiling it (Lib/Ring.lean `Piece.tiledL`). -/
theorem scover0_A_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (y : S11x8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 S1x8x128.size (by sl_kernel_rfl) y

/-- What case A leaves in scratch `arg12`: its pieces read back over junk. -/
def sout0_A_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) : Vec F S11x8x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (8 stores of `S256x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) (y : S256x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1 S256x1024.size (by sl_kernel_rfl) y

/-- What case B leaves in output 7's staging buffer: its pieces read back over junk. -/
def out0_B_7 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S256x8192 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1)

/-- Case B's pieces for output 8 tile its block (256 stores of `S16x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1 S16x128.size (by sl_kernel_rfl) y

/-- What case B leaves in output 8's staging buffer: its pieces read back over junk. -/
def out0_B_8 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S256x2048 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1)

/-- Case B stores nothing into scratch `arg10`: it holds what the point before left. -/
def sout0_B_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S8192x2048 .bf16 := xs0

/-- Case B stores nothing into scratch `arg11`: it holds what the point before left. -/
def sout0_B_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S11x8x2048 .f32 := xs1

/-- Case B stores nothing into scratch `arg12`: it holds what the point before left. -/
def sout0_B_2 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i)
    (x0 : Vec F S256x2048 .bf16) (x1 : Vec F S1x2048 .f32) (x2 : Vec F S11x1024 .f32) (x3 : Vec F S8192x512 .i8) (x4 : Vec F S8192x32 .bf16) (x5 : Vec F S8192x32 .bf16) (x6 : Vec F S1x8192 .f32) (xs0 : Vec F S8192x2048 .bf16) (xs1 : Vec F S11x8x2048 .f32) (xs2 : Vec F S11x8x2048 .f32) : Vec F S11x8x2048 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x8192 .bf16 × Vec F S256x2048 .bf16 × Vec F S8192x2048 .bf16 × Vec F S11x8x2048 .f32 × Vec F S11x8x2048 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 60 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 60 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 60 := lt_of_lt_of_eq t.isLt (show cfg0.N = 60 from N_0)
  by_cases h0 : t.val % 60 = 0
  · by_cases hz : t.val = 0
    · rw [PhiS_castSucc m c t, PhiS_zero m c _ _ hz, PhiA0_eq]
      rw [outsAt0_A m c t h0]
      unfold out0_A_7 out0_A_8 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, ⟨%e7, H7⟩, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _)
    · exfalso; have hN : t.val < 60 := lt_of_lt_of_eq t.isLt (show cfg0.N = 60 from N_0); omega
  · by_cases hz : t.val = 0
    · exfalso; have hN : t.val < 60 := lt_of_lt_of_eq t.isLt (show cfg0.N = 60 from N_0); omega
    · rw [PhiS_castSucc m c t, PhiS_pos m c _ _ hz]
      rw [outsAt0_B m c t h0]
      unfold out0_B_7 out0_B_8 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 60 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Value.lean ====
/- The arrays the kernel leaves over the extended reals, following the generated account over this proof's own frame
   (Frame.lean): each output array after the run is, block by block, what the grid points wrote back. -/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 60 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 60 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed7, outsAt0_B m c t h0]

/-- The index map sends distinct grid points to distinct block indices (decided over the 60 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S15360x8192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 60 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 60 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed8, outsAt0_B m c t h0]

/-- The index map sends distinct grid points to distinct block indices (decided over the 60 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S15360x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8192x2048 .bf16) : Vec F S8192x2048 .bf16 :=
  if h0 : n % 60 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `60·(t / 60)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (60 * (t.val / 60)) (t.val % 60)
      (by have h1 := t.isLt; have h2 := Nat.div_add_mod t.val 60; omega) :=
  Pipeline.eq_accAt_of_mod (fun n h => (outsAt0 m c n h).2.2.1) 60 (fun n h => scAt0_0 m c n h (VS0_0.read (Elt F) VS0_0.junk)) (scAt0_0 m c)
    (fun n h hn => by
      have hN := lt_of_lt_of_eq h (show cfg0.N = 60 from N_0)
      by_cases h0 : n % 60 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 60 from N_0)
      by_cases h0 : (n + 1) % 60 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 60 from N_0)
  have hd : n / 60 = 0 := Nat.div_eq_of_lt hN
  have hm : n % 60 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S11x8x2048 .f32) : Vec F S11x8x2048 .f32 :=
  if h0 : n % 60 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2

/-- WHAT CARRIED SCRATCH 1 HOLDS after point `t`: the fold of its run up to `t`, from the reset at the run's first point
    `60·(t / 60)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.1 = Pipeline.accAt (fun n h => scAt0_1 m c n h (VS0_1.read (Elt F) VS0_1.junk)) (scAt0_1 m c) (60 * (t.val / 60)) (t.val % 60)
      (by have h1 := t.isLt; have h2 := Nat.div_add_mod t.val 60; omega) :=
  Pipeline.eq_accAt_of_mod (fun n h => (outsAt0 m c n h).2.2.2.1) 60 (fun n h => scAt0_1 m c n h (VS0_1.read (Elt F) VS0_1.junk)) (scAt0_1 m c)
    (fun n h hn => by
      have hN := lt_of_lt_of_eq h (show cfg0.N = 60 from N_0)
      by_cases h0 : n % 60 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 60 from N_0)
      by_cases h0 : (n + 1) % 60 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 60 from N_0)
  have hd : n / 60 = 0 := Nat.div_eq_of_lt hN
  have hm : n % 60 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S11x8x2048 .f32) : Vec F S11x8x2048 .f32 :=
  if h0 : n % 60 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 2 HOLDS after point `t`: the fold of its run up to `t`, from the reset at the run's first point
    `60·(t / 60)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2 = Pipeline.accAt (fun n h => scAt0_2 m c n h (VS0_2.read (Elt F) VS0_2.junk)) (scAt0_2 m c) (60 * (t.val / 60)) (t.val % 60)
      (by have h1 := t.isLt; have h2 := Nat.div_add_mod t.val 60; omega) :=
  Pipeline.eq_accAt_of_mod (fun n h => (outsAt0 m c n h).2.2.2.2) 60 (fun n h => scAt0_2 m c n h (VS0_2.read (Elt F) VS0_2.junk)) (scAt0_2 m c)
    (fun n h hn => by
      have hN := lt_of_lt_of_eq h (show cfg0.N = 60 from N_0)
      by_cases h0 : n % 60 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 60 from N_0)
      by_cases h0 : (n + 1) % 60 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 60 from N_0)
  have hd : n / 60 = 0 := Nat.div_eq_of_lt hN
  have hm : n % 60 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x8192 .bf16 × Vec F S256x2048 .bf16 × Vec F S8192x2048 .bf16 × Vec F S11x8x2048 .f32 × Vec F S11x8x2048 .f32 :=
  ((VO0_7.read (Elt F) VO0_7.junk, VO0_8.read (Elt F) VO0_8.junk, VS0_0.read (Elt F) VS0_0.junk, VS0_1.read (Elt F) VS0_1.junk, VS0_2.read (Elt F) VS0_2.junk) : Vec F S256x8192 .bf16 × Vec F S256x2048 .bf16 × Vec F S8192x2048 .bf16 × Vec F S11x8x2048 .f32 × Vec F S11x8x2048 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x8192 .bf16 × Vec F S256x2048 .bf16 × Vec F S8192x2048 .bf16 × Vec F S11x8x2048 .f32 × Vec F S11x8x2048 .f32) : Vec F S256x8192 .bf16 × Vec F S256x2048 .bf16 × Vec F S8192x2048 .bf16 × Vec F S11x8x2048 .f32 × Vec F S11x8x2048 .f32 :=
  if h0 : n % 60 = 0 then
    (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.1 acc.2.2.2.1 acc.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.1 acc.2.2.2.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.1 acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.1 acc.2.2.2.1 acc.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.1 acc.2.2.2.1 acc.2.2.2.2)

/-- `stAt0` at a point of case A: that case's contents. -/
theorem stAt0_A (c : Dev nD) (t : Fin cfg0.N) (acc : Vec F S256x8192 .bf16 × Vec F S256x2048 .bf16 × Vec F S8192x2048 .bf16 × Vec F S11x8x2048 .f32 × Vec F S11x8x2048 .f32) (h0 : t.val % 60 = 0) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) :=
  (dif_pos h0).trans rfl

/-- `stAt0` at a point of case B: that case's contents, over `acc`. -/
theorem stAt0_B (c : Dev nD) (t : Fin cfg0.N) (acc : Vec F S256x8192 .bf16 × Vec F S256x2048 .bf16 × Vec F S8192x2048 .bf16 × Vec F S11x8x2048 .f32 × Vec F S11x8x2048 .f32) (h0 : ¬t.val % 60 = 0) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) acc.2.2.1 acc.2.2.2.1 acc.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) acc.2.2.1 acc.2.2.2.1 acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) acc.2.2.1 acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) acc.2.2.1 acc.2.2.2.1 acc.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) acc.2.2.1 acc.2.2.2.1 acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 60 from N_0)
  have e := Pipeline.eq_accAt_of_mod (fun n h => outsAt0 m c n h) 60 (fun n h => stAt0 m c n h junk0) (stAt0 m c)
    (fun n h _ => by
      have hN := lt_of_lt_of_eq h (show cfg0.N = 60 from N_0)
      obtain rfl : n = 0 := by omega
      exact outsAt0_zero m c h)
    (fun n h _ => outsAt0_succ m c n h)
    (by decide) n hn (by have := Nat.div_add_mod n 60; omega)
  have hd : n / 60 = 0 := Nat.div_eq_of_lt hN
  have hm : n % 60 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point),
    `i`'s place in it, and the point that writes it back. -/
abbrev run7Of (i : S15360x8192.Idx) : ℕ := 1 * ((i 0).val / 256 - 0) + 1 * ((i 1).val / 8192 - 0)
set_option backward.proofsInPublic true in
abbrev loc7Of (i : S15360x8192.Idx) : S256x8192.Idx := fun a => match a with
  | ⟨0, _⟩ => ⟨(i 0).val % 256, Nat.mod_lt _ (by decide)⟩
  | ⟨1, _⟩ => ⟨(i 1).val % 8192, Nat.mod_lt _ (by decide)⟩
abbrev pt7Of (i : S15360x8192.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v3_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 59
    ∧ 0 ≤ win0_7.index t (1 : Fin 2) ∧ win0_7.index t (1 : Fin 2) ≤ 0
    ∧ 1 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 60) (q1 : Fin 1) : Fin grid0.N :=
  ⟨1 * q0.val + 1 * q1.val, lt_of_lt_of_eq (by omega) N_0.symm⟩
theorem idx_onto7 : ∀ (q0 : Fin 60) (q1 : Fin 1), ∃ t : Fin cfg0.N, (cfg0.win 7).flush t = true ∧ win0_7.index t = ![q0.val + 0, q1.val + 0] :=
  fun q0 q1 => ⟨onto7Pt q0 q1, (by decide +kernel : ∀ (q0 : Fin 60) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 256 := (y 0).isLt
  have hy1 : (y 1).val < 8192 := (y 1).isLt
  have hb0 : (((cfg0.win 7).blk t).view.emb y 0).val = win0_7.index t (0 : Fin 2) * 256 + 1 * (y 0).val := rfl
  have hb1 : (((cfg0.win 7).blk t).view.emb y 1).val = win0_7.index t (1 : Fin 2) * 8192 + 1 * (y 1).val := rfl
  have hr : run7Of (((cfg0.win 7).blk t).view.emb y) = t.val := by
    show 1 * ((((cfg0.win 7).blk t).view.emb y 0).val / 256 - 0) + 1 * ((((cfg0.win 7).blk t).view.emb y 1).val / 8192 - 0) = _
    rw [hb0, hb1]
    rw [show (win0_7.index t (0 : Fin 2) * 256 + 1 * (y 0).val) / 256 = win0_7.index t (0 : Fin 2) from by omega]; rw [show (win0_7.index t (1 : Fin 2) * 8192 + 1 * (y 1).val) / 8192 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 256 = (y 0).val; rw [hb0]; omega
    | ⟨1, _⟩ => show (((cfg0.win 7).blk t).view.emb y 1).val % 8192 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S15360x8192.Idx) :
    i ∈ ((cfg0.win 7).blk t).view.set ↔ ∀ a : Fin 2, win0_7.index t a * S256x8192.size a ≤ (i a).val ∧ (i a).val < win0_7.index t a * S256x8192.size a + S256x8192.size a := by
  show i ∈ ((View.whole main_v3_0).slice (win0_7.rect t)).set ↔ _
  rw [View.set_slice_whole, Rect.mem_set_unit]
  exact Iff.rfl

/-- THE COVERED INDICES: in some flushing point's block iff inside the box those blocks fill. -/
theorem covered_iff7 (i : S15360x8192.Idx) :
    (∃ t : Fin cfg0.N, (cfg0.win 7).flush t = true ∧ i ∈ ((cfg0.win 7).blk t).view.set) ↔ 0 ≤ (i 0).val ∧ (i 0).val < 15360 ∧ 0 ≤ (i 1).val ∧ (i 1).val < 8192 := by
  constructor
  · rintro ⟨t, -, hi⟩
    rw [mem_blk7] at hi
    have b0 : win0_7.index t (0 : Fin 2) * 256 ≤ (i 0).val ∧ (i 0).val < win0_7.index t (0 : Fin 2) * 256 + 256 := hi 0
    have b1 : win0_7.index t (1 : Fin 2) * 8192 ≤ (i 1).val ∧ (i 1).val < win0_7.index t (1 : Fin 2) * 8192 + 8192 := hi 1
    obtain ⟨e0, e1, e2⟩ := idx_facts7 t
    omega
  · intro h
    have hi0 : (i 0).val < 15360 := (i 0).isLt
    have hi1 : (i 1).val < 8192 := (i 1).isLt
    obtain ⟨t, hft, ht⟩ := idx_onto7 ⟨(i 0).val / 256 - 0, by omega⟩ ⟨(i 1).val / 8192 - 0, by omega⟩
    have q0 : win0_7.index t (0 : Fin 2) = (i 0).val / 256 - 0 + 0 := congrFun ht 0
    have q1 : win0_7.index t (1 : Fin 2) = (i 1).val / 8192 - 0 + 0 := congrFun ht 1
    refine ⟨t, hft, ?_⟩
    rw [mem_blk7]
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 8192 ≤ (i 1).val ∧ (i 1).val < win0_7.index t (1 : Fin 2) * 8192 + 8192; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 15360 := (i 0).isLt; have h1 : (i 1).val < 8192 := (i 1).isLt; omega))

/-! ## Output window 8 -/

/-- The block of the array that holds index `i`, numbered in the order the points write the blocks back (one per point),
    `i`'s place in it, and the point that writes it back. -/
abbrev run8Of (i : S15360x2048.Idx) : ℕ := 1 * ((i 0).val / 256 - 0) + 1 * ((i 1).val / 2048 - 0)
set_option backward.proofsInPublic true in
abbrev loc8Of (i : S15360x2048.Idx) : S256x2048.Idx := fun a => match a with
  | ⟨0, _⟩ => ⟨(i 0).val % 256, Nat.mod_lt _ (by decide)⟩
  | ⟨1, _⟩ => ⟨(i 1).val % 2048, Nat.mod_lt _ (by decide)⟩
abbrev pt8Of (i : S15360x2048.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v3_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 59
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 60) (q1 : Fin 1) : Fin grid0.N :=
  ⟨1 * q0.val + 1 * q1.val, lt_of_lt_of_eq (by omega) N_0.symm⟩
theorem idx_onto8 : ∀ (q0 : Fin 60) (q1 : Fin 1), ∃ t : Fin cfg0.N, (cfg0.win 8).flush t = true ∧ win0_8.index t = ![q0.val + 0, q1.val + 0] :=
  fun q0 q1 => ⟨onto8Pt q0 q1, (by decide +kernel : ∀ (q0 : Fin 60) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 256 := (y 0).isLt
  have hy1 : (y 1).val < 2048 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  have hr : run8Of (((cfg0.win 8).blk t).view.emb y) = t.val := by
    show 1 * ((((cfg0.win 8).blk t).view.emb y 0).val / 256 - 0) + 1 * ((((cfg0.win 8).blk t).view.emb y 1).val / 2048 - 0) = _
    rw [hb0, hb1]
    rw [show (win0_8.index t (0 : Fin 2) * 256 + 1 * (y 0).val) / 256 = win0_8.index t (0 : Fin 2) from by omega]; rw [show (win0_8.index t (1 : Fin 2) * 2048 + 1 * (y 1).val) / 2048 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 256 = (y 0).val; rw [hb0]; omega
    | ⟨1, _⟩ => show (((cfg0.win 8).blk t).view.emb y 1).val % 2048 = (y 1).val; rw [hb1]; omega
  have hp : pt8Of (((cfg0.win 8).blk t).view.emb y) = t.val := by
    exact hr
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S15360x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v3_1).slice (win0_8.rect t)).set ↔ _
  rw [View.set_slice_whole, Rect.mem_set_unit]
  exact Iff.rfl

/-- THE COVERED INDICES: in some flushing point's block iff inside the box those blocks fill. -/
theorem covered_iff8 (i : S15360x2048.Idx) :
    (∃ t : Fin cfg0.N, (cfg0.win 8).flush t = true ∧ i ∈ ((cfg0.win 8).blk t).view.set) ↔ 0 ≤ (i 0).val ∧ (i 0).val < 15360 ∧ 0 ≤ (i 1).val ∧ (i 1).val < 2048 := by
  constructor
  · rintro ⟨t, -, hi⟩
    rw [mem_blk8] at hi
    have b0 : win0_8.index t (0 : Fin 2) * 256 ≤ (i 0).val ∧ (i 0).val < win0_8.index t (0 : Fin 2) * 256 + 256 := hi 0
    have b1 : win0_8.index t (1 : Fin 2) * 2048 ≤ (i 1).val ∧ (i 1).val < win0_8.index t (1 : Fin 2) * 2048 + 2048 := hi 1
    obtain ⟨e0, e1, e2⟩ := idx_facts8 t
    omega
  · intro h
    have hi0 : (i 0).val < 15360 := (i 0).isLt
    have hi1 : (i 1).val < 2048 := (i 1).isLt
    obtain ⟨t, hft, ht⟩ := idx_onto8 ⟨(i 0).val / 256 - 0, by omega⟩ ⟨(i 1).val / 2048 - 0, by omega⟩
    have q0 : win0_8.index t (0 : Fin 2) = (i 0).val / 256 - 0 + 0 := congrFun ht 0
    have q1 : win0_8.index t (1 : Fin 2) = (i 1).val / 2048 - 0 + 0 := congrFun ht 1
    refine ⟨t, hft, ?_⟩
    rw [mem_blk8]
    intro a
    match a with
    | ⟨0, _⟩ => show win0_8.index t (0 : Fin 2) * 256 ≤ (i 0).val ∧ (i 0).val < win0_8.index t (0 : Fin 2) * 256 + 256; omega
    | ⟨1, _⟩ => show win0_8.index t (1 : Fin 2) * 2048 ≤ (i 1).val ∧ (i 1).val < win0_8.index t (1 : Fin 2) * 2048 + 2048; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 15360 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G7 m c
      ∧ r.2.mem ((c : Thread nD τ).loc main_v3_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Prep.lean ====
/-
  The preparation at the first grid point: eleven layers of cosines and sines, spread over the 2048 columns.

  Layer `l` pairs column `j` with column `j xor 2^l`. The angles of a layer are 1024, one for each pair; the two
  columns of a pair take the same cosine, and sines of opposite sign.
-/
module

public import proofs.«01_k».proof.Proof.Gen.KernelIdeal.Loops
public import Idealize.ShloMosaic.Lib.Tactic

@[expose] public section

noncomputable section

namespace Cert.KernelIdeal.Prep

open Idealize.ShloMosaic Idealize.ShloMosaic.TcCoe Idealize.ShloMosaic.Tactic Idealize.SL.Sem
open Cert.KernelIdeal Cert.KernelIdeal.Gen

variable {F : FTy → Type} [FloatOps F]

/-- The lane number of every lane of an 8 × 128 block. -/
def lanes : IVec S8x128 32 := iota .tc S8x128 32 [1] iota_S8x128_d1_w32

/-- An 8 × 128 index after the addition of 128 to a negative number. -/
def idx8 (p : IVec S8x128 32) : IVec S8x128 32 :=
  shapeCast S8x128 (shapeCast S8x128x1 (select (cmpi .slt p (broadcast S8x128 0#32))
    (addi p (broadcast S8x128 128#32)) p) shapeCasts_S8x128_S8x128x1) shapeCasts_S8x128x1_S8x128

/-- The angles of layer `l`, repeated over eight rows. -/
def angle (M : Memref sig .tc .vmem S11x1024 .f32) (X : BufTy.Contents (Elt F) M.view.ty) (l : ℕ) : FVec F S8x1024 .f32 :=
  broadcastTo S8x1024 (shapeCast S1x1024 (M.view.readAt (Elt F) (Rect.unit (s := S11x1024) ![l % 11, 0] S1x1024.size
    (fun a => by have := Nat.mod_lt l (show 0 < 11 by decide); match a with | 0 => exact this | 1 => exact Nat.le_refl _)).toLoadRect X)
    shapeCasts_S1x1024_S1x1024) broadcasts_S1x1024_S8x1024

/-- 128 of a layer's 1024 numbers. -/
def cut (v : FVec F S8x1024 .f32) (p : ℕ) : FVec F S8x128 .f32 :=
  extractStridedSlice S8x128 ![0, 128 * (p % 8)] v
    ⟨rfl, fun a => by have := Nat.mod_lt p (show 0 < 8 by decide); match a with | 0 => exact Nat.le_refl _ | 1 => (change 128 * (p % 8) + 128 ≤ 1024; omega)⟩

/-- Where, among the 128 numbers cut out for it, each lane of column block `b` finds its pair's number (layers 0 to 6). -/
def pairIdx (l b : ℕ) : IVec S8x128 32 :=
  addi (addi (muli (shrsi lanes (broadcast S8x128 (BitVec.ofNat 32 (l + 1)))) (broadcast S8x128 (BitVec.ofNat 32 (2 ^ l))))
    (andi lanes (broadcast S8x128 (BitVec.ofNat 32 (2 ^ l - 1))))) (broadcast S8x128 (BitVec.ofNat 32 (b % 2 * 64)))

/-- Whether each lane is the upper one of its pair (layers 0 to 6). -/
def upper (l : ℕ) : IVec S8x128 1 :=
  cmpi .ne (andi lanes (broadcast S8x128 (BitVec.ofNat 32 (2 ^ l)))) (broadcast S8x128 0#32)

/-- A layer's numbers spread over the lanes of column block `b`. -/
def spread (v : FVec F S8x1024 .f32) (l b : ℕ) : FVec F S8x128 .f32 :=
  if l < 7 then dynamicGather 1 (cut v (b / 2)) (idx8 (pairIdx l b))
  else cut v (b / (2 * 2 ^ (l - 7)) * 2 ^ (l - 7) + b % 2 ^ (l - 7))

/-- The opposite of a block, as zero minus it. -/
def opp (v : FVec F S8x128 .f32) : FVec F S8x128 .f32 :=
  subf (broadcast S8x128 (Scalar.ofBits .f32 0x00000000#32)) v

/-- The same with the sign of the lower column of each pair reversed. -/
def signed (v : FVec F S8x1024 .f32) (l b : ℕ) : FVec F S8x128 .f32 :=
  if l < 7 then select (upper l) (spread v l b) (opp (spread v l b))
  else if b.testBit (l - 7) then spread v l b else opp (spread v l b)

/-- The place of layer `n / 16`, column block `n % 16`. -/
abbrev place (n : ℕ) : Rect S11x8x2048 :=
  Rect.unit (s := S11x8x2048) ![n / 16 % 11, 0, 128 * (n % 16)] S1x8x128.size
    (fun a => by
      have := Nat.mod_lt (n / 16) (show 0 < 11 by decide)
      have := Nat.mod_lt n (show 0 < 16 by decide)
      match a with
      | 0 => exact Nat.mod_lt (n / 16) (show 0 < 11 by decide)
      | 1 => exact Nat.le_refl _
      | 2 => (change 128 * (n % 16) + 128 ≤ 2048; omega))

/-- The stores of the cosines. -/
def cosPieces (M : Memref sig .tc .vmem S11x1024 .f32) (X : BufTy.Contents (Elt F) M.view.ty) : ℕ → List (View.Piece (Elt F) S11x8x2048 .f32)
  | 0 => []
  | n + 1 => ⟨place n, shapeCast S1x8x128 (spread (cos (angle M X (n / 16))) (n / 16) (n % 16)) shapeCasts_S8x128_S1x8x128⟩ :: cosPieces M X n

/-- The stores of the signed sines. -/
def sinPieces (M : Memref sig .tc .vmem S11x1024 .f32) (X : BufTy.Contents (Elt F) M.view.ty) : ℕ → List (View.Piece (Elt F) S11x8x2048 .f32)
  | 0 => []
  | n + 1 => ⟨place n, shapeCast S1x8x128 (signed (sin (angle M X (n / 16))) (n / 16) (n % 16)) shapeCasts_S8x128_S1x8x128⟩ :: sinPieces M X n

end Cert.KernelIdeal.Prep

end
-- ==== Proof.Spec.lean ====
/-
  The mathematics that both programs compute, on numbers indexed by plain natural numbers.

  A row of 2048 numbers goes through eleven layers of plane rotations: layer `l` rotates the pair `(j, j + 2^l)` for every
  column `j` whose bit `l` is zero. The result is multiplied by a matrix of dequantised weights and a bias is added.
-/
module

public import Idealize.ShloMosaic.Lib.Pointwise

@[expose] public section

noncomputable section

namespace Cert.Spec

open Idealize.ShloMosaic

/-- The number of the pair that column `j` belongs to in layer `l`. -/
def pair (l j : ℕ) : ℕ := j / 2 ^ (l + 1) * 2 ^ l + j % 2 ^ l

/-- The cosine that column `j` takes in layer `l`, for the angles `θ`. -/
def co (θ : ℕ → ℕ → EReal) (l j : ℕ) : EReal := Ideal.cos (θ l (pair l j))

/-- The signed sine that column `j` takes in layer `l`: negative in the lower column of a pair. -/
def si (θ : ℕ → ℕ → EReal) (l j : ℕ) : EReal :=
  if j.testBit l then Ideal.sin (θ l (pair l j)) else -Ideal.sin (θ l (pair l j))

/-- One layer with coefficients `C` and `S`. -/
def layer (C S : ℕ → ℕ → EReal) (l : ℕ) (v : ℕ → EReal) : ℕ → EReal := fun j =>
  C l j * v j + S l j * v (j ^^^ 2 ^ l)

/-- The first `n` layers. -/
def layers (C S : ℕ → ℕ → EReal) : ℕ → (ℕ → EReal) → (ℕ → EReal)
  | 0, v => v
  | n + 1, v => layer C S n (layers C S n v)

/-- A row after all eleven layers. -/
def rot (θ : ℕ → ℕ → EReal) (v : ℕ → EReal) : ℕ → EReal := layers (co θ) (si θ) 11 v

/-- A layer's value at a column below 2048 depends on coefficients and numbers below 2048 alone. -/
theorem layers_congr {C S C' S' : ℕ → ℕ → EReal} {v v' : ℕ → EReal}
    (hC : ∀ l < 11, ∀ j < 2048, C l j = C' l j) (hS : ∀ l < 11, ∀ j < 2048, S l j = S' l j)
    (hv : ∀ j < 2048, v j = v' j) : ∀ n ≤ 11, ∀ j < 2048, layers C S n v j = layers C' S' n v' j := by
  intro n
  induction n with
  | zero => intro _ j hj; exact hv j hj
  | succ n ih =>
    intro hn j hj
    have hx : j ^^^ 2 ^ n < 2 ^ 11 := Nat.xor_lt_two_pow hj (Nat.pow_lt_pow_right (by decide) (by omega))
    show C n j * _ + S n j * _ = C' n j * _ + S' n j * _
    rw [hC n (by omega) j hj, hS n (by omega) j hj, ih (by omega) j hj, ih (by omega) _ hx]

/-- Flipping a bit below 7 keeps the block of 128 and flips the bit of the lane. -/
theorem xor_lane (b r l : ℕ) (hr : r < 128) (hl : l < 7) : (128 * b + r) ^^^ 2 ^ l = 128 * b + (r ^^^ 2 ^ l) := by
  have h2 : 2 ^ l < 2 ^ 7 := Nat.pow_lt_pow_right (by decide) hl
  have hx : r ^^^ 2 ^ l < 2 ^ 7 := Nat.xor_lt_two_pow hr h2
  have e1 := Nat.xor_div_two_pow (a := 128 * b + r) (b := 2 ^ l) (n := 7)
  have e2 := Nat.xor_mod_two_pow (a := 128 * b + r) (b := 2 ^ l) (n := 7)
  rw [Nat.div_eq_of_lt h2, Nat.xor_zero] at e1
  rw [Nat.mod_eq_of_lt h2] at e2
  have e3 : (128 * b + r) / 2 ^ 7 = b := by omega
  have e4 : (128 * b + r) % 2 ^ 7 = r := by omega
  rw [e3] at e1; rw [e4] at e2
  omega

/-- Flipping a bit from 7 on keeps the lane and flips the bit of the block. -/
theorem xor_block (b r l : ℕ) (hr : r < 128) (hl : 7 ≤ l) : (128 * b + r) ^^^ 2 ^ l = 128 * (b ^^^ 2 ^ (l - 7)) + r := by
  have h2 : 2 ^ l = 2 ^ (l - 7) * 2 ^ 7 := by rw [← pow_add]; congr 1; omega
  have e1 := Nat.xor_div_two_pow (a := 128 * b + r) (b := 2 ^ l) (n := 7)
  have e2 := Nat.xor_mod_two_pow (a := 128 * b + r) (b := 2 ^ l) (n := 7)
  have h3 : 2 ^ l / 2 ^ 7 = 2 ^ (l - 7) := by rw [h2]; exact Nat.mul_div_cancel _ (by decide)
  have h4 : 2 ^ l % 2 ^ 7 = 0 := by rw [h2]; exact Nat.mul_mod_left _ _
  have e3 : (128 * b + r) / 2 ^ 7 = b := by omega
  have e4 : (128 * b + r) % 2 ^ 7 = r := by omega
  rw [e3, h3] at e1; rw [e4, h4, Nat.xor_zero] at e2
  omega

/-- The pair of lane `r` of block `b` in a layer below 7. -/
theorem pair_lane (b r l : ℕ) (hr : r < 128) (hl : l < 7) :
    pair l (128 * b + r) = 128 * (b / 2) + (r / 2 ^ (l + 1) * 2 ^ l + r % 2 ^ l + b % 2 * 64) := by
  unfold pair
  interval_cases l <;> norm_num <;> omega

/-- The pair of lane `r` of block `b` in a layer from 7 on. -/
theorem pair_block (b r l : ℕ) (hr : r < 128) (hl : 7 ≤ l) (hl' : l < 11) :
    pair l (128 * b + r) = 128 * (b / (2 * 2 ^ (l - 7)) * 2 ^ (l - 7) + b % 2 ^ (l - 7)) + r := by
  unfold pair
  interval_cases l <;> norm_num <;> omega

end Cert.Spec

end
-- ==== Proof.PrepValue.lean ====
/-
  What the preparation stores, number by number: the cosine and the signed sine of each column in each layer.
-/
module

public import proofs.«01_k».proof.Proof.Prep
public import proofs.«01_k».proof.Proof.Spec
public import Idealize.ShloMosaic.Lib.Pipeline.Value

@[expose] public section

noncomputable section

namespace Cert.KernelIdeal.Prep

open Idealize.ShloMosaic Idealize.ShloMosaic.TcCoe Idealize.SL.Sem
open Cert.KernelIdeal Cert.KernelIdeal.Gen Cert.Spec

/-- The lane number, read. -/
theorem lanes_apply (s : Fin 8) (r : Fin 128) : lanes (ix2 s r) = BitVec.ofNat 32 r.val := by
  pointwise [lanes]

/-- An index that is not negative is left as it is. -/
theorem idx8_apply (p : IVec S8x128 32) (j : S8x128.Idx) (h : (p j).toNat < 2 ^ 31) : idx8 p j = p j := by
  unfold idx8
  rw [shapeCast_shapeCast]
  show (if (BitVec.ofBool ((p j).slt 0#32)) = 1#1 then p j + 128#32 else p j) = _
  rw [if_neg]
  have : (p j).slt 0#32 = false := by
    rw [BitVec.slt_eq_decide, decide_eq_false_iff_not, BitVec.toInt_eq_toNat_of_lt (by omega)]
    simp
  rw [this]; decide

/-- Where each lane finds its pair's number. -/
theorem pairIdx_toNat (l b : ℕ) (hl : l < 7) (s : Fin 8) (r : Fin 128) :
    (pairIdx l b (ix2 s r)).toNat = r.val / 2 ^ (l + 1) * 2 ^ l + r.val % 2 ^ l + b % 2 * 64 := by
  have hb : b % 2 = 0 ∨ b % 2 = 1 := by omega
  show ((IntOp.shrsi .vector (lanes (ix2 s r)) (BitVec.ofNat 32 (l + 1)) * BitVec.ofNat 32 (2 ^ l)
    + (lanes (ix2 s r) &&& BitVec.ofNat 32 (2 ^ l - 1))) + BitVec.ofNat 32 (b % 2 * 64)).toNat = _
  rw [lanes_apply]
  rcases hb with hb | hb <;> rw [hb] <;> interval_cases l <;> revert r <;> decide

/-- Cutting 128 numbers out. -/
theorem cut_apply (v : FVec Ideal S8x1024 .f32) (p : ℕ) (hp : p < 8) (s : Fin 8) (r : Fin 128) :
    cut v p (ix2 s r) = v (ix2 s ⟨128 * p + r.val, by omega⟩) := by
  unfold cut extractStridedSlice
  congr 1
  funext a
  match a with
  | ⟨0, _⟩ => exact Fin.ext (Nat.zero_add _)
  | ⟨1, _⟩ => exact Fin.ext (by show 128 * (p % 8) + r.val = 128 * p + r.val; rw [Nat.mod_eq_of_lt hp])

/-- Each column gets the number of its pair. -/
theorem spread_apply (v : FVec Ideal S8x1024 .f32) (f : ℕ → EReal) (hv : ∀ (s : Fin 8) (p : Fin 1024), v (ix2 s p) = f p.val)
    (l b : ℕ) (hl : l < 11) (hb : b < 16) (s : Fin 8) (r : Fin 128) :
    spread v l b (ix2 s r) = f (pair l (128 * b + r.val)) := by
  unfold spread
  by_cases h : l < 7
  · rw [if_pos h, pair_lane b r.val l r.isLt h]
    have ht := pairIdx_toNat l b h s r
    have hlt : r.val / 2 ^ (l + 1) * 2 ^ l + r.val % 2 ^ l + b % 2 * 64 < 128 := by
      have := r.isLt
      interval_cases l <;> norm_num <;> omega
    have e : dynamicGather 1 (cut v (b / 2)) (idx8 (pairIdx l b)) (ix2 s r)
        = cut v (b / 2) (ix2 s ⟨r.val / 2 ^ (l + 1) * 2 ^ l + r.val % 2 ^ l + b % 2 * 64, hlt⟩) := by
      unfold dynamicGather
      congr 1
      funext a
      match a with
      | ⟨0, _⟩ => rfl
      | ⟨1, _⟩ =>
        apply Fin.ext
        show (idx8 (pairIdx l b) (ix2 s r)).toNat % 128 = _
        rw [idx8_apply _ _ (by rw [ht]; omega), ht]; exact Nat.mod_eq_of_lt hlt
    rw [e, cut_apply v _ (by omega), hv]
  · rw [if_neg h, pair_block b r.val l r.isLt (by omega) hl]
    have hp : b / (2 * 2 ^ (l - 7)) * 2 ^ (l - 7) + b % 2 ^ (l - 7) < 8 := by
      have h1 : 7 ≤ l := by omega
      interval_cases l <;> norm_num <;> omega
    rw [cut_apply v _ hp, hv]

/-- Zero minus a number is its opposite. -/
theorem opp_apply (v : FVec Ideal S8x128 .f32) (j : S8x128.Idx) : opp v j = -v j := by
  have e : opp v j = Ideal.ofBits .f32 0x00000000#32 - v j := rfl
  rw [e]
  pointwise
  simp

/-- The upper lane of a pair is the one whose bit is set. -/
theorem upper_apply (l : ℕ) (hl : l < 7) (s : Fin 8) (r : Fin 128) :
    upper l (ix2 s r) = BitVec.ofBool (r.val.testBit l) := by
  show BitVec.ofBool ((lanes (ix2 s r) &&& BitVec.ofNat 32 (2 ^ l)) != 0#32) = _
  rw [lanes_apply]
  interval_cases l <;> revert r <;> decide

/-- Bit `l` of a column, for a lane layer and for a block layer. -/
theorem testBit_column (b r l : ℕ) (hr : r < 128) :
    (128 * b + r).testBit l = if l < 7 then r.testBit l else b.testBit (l - 7) := by
  have := Nat.testBit_two_pow_mul_add (i := 7) b (show r < 2 ^ 7 from hr) l
  simpa using this

/-- Each column gets its signed number. -/
theorem signed_apply (v : FVec Ideal S8x1024 .f32) (f : ℕ → EReal) (hv : ∀ (s : Fin 8) (p : Fin 1024), v (ix2 s p) = f p.val)
    (l b : ℕ) (hl : l < 11) (hb : b < 16) (s : Fin 8) (r : Fin 128) :
    signed v l b (ix2 s r) = if (128 * b + r.val).testBit l then f (pair l (128 * b + r.val)) else -f (pair l (128 * b + r.val)) := by
  have hs := spread_apply v f hv l b hl hb s r
  rw [testBit_column b r.val l r.isLt]
  unfold signed
  by_cases h : l < 7
  · rw [if_pos h, if_pos h]
    show (if upper l (ix2 s r) = 1#1 then spread v l b (ix2 s r) else opp (spread v l b) (ix2 s r)) = _
    rw [upper_apply l h, opp_apply, hs]
    cases r.val.testBit l <;> rfl
  · rw [if_neg h, if_neg h]
    cases b.testBit (l - 7)
    · rw [if_neg (by decide), if_neg (by decide), opp_apply, hs]
    · rw [if_pos rfl, if_pos rfl, hs]

variable (M : Memref sig .tc .vmem S11x1024 .f32) (X : BufTy.Contents (Elt Ideal) M.view.ty)

/-- The angles, as natural-number-indexed numbers. -/
def angles (x : Vec Ideal S11x1024 .f32) (l p : ℕ) : EReal := if h : l < 11 ∧ p < 1024 then x (ix2 ⟨l, h.1⟩ ⟨p, h.2⟩) else 0

/-- The angles of a layer, read. -/
theorem angle_apply (x : Vec Ideal S11x1024 .f32) (hX : M.view.read (Elt Ideal) X = x) (l : ℕ) (hl : l < 11) (s : Fin 8) (p : Fin 1024) :
    angle M X l (ix2 s p) = angles x l p.val := by
  subst hX
  have e : angle M X l (ix2 s p) = M.view.readAt (Elt Ideal) (Rect.unit (s := S11x1024) ![l % 11, 0] S1x1024.size
    (fun a => by have := Nat.mod_lt l (show 0 < 11 by decide); match a with | 0 => exact this | 1 => exact Nat.le_refl _)).toLoadRect X (ix2 0 p) := by
    pointwise [angle]
  rw [e, View.readAt_eq_ld]
  unfold angles
  rw [dif_pos ⟨hl, p.isLt⟩]
  show M.view.read (Elt Ideal) X _ = _
  congr 1
  funext a
  match a with
  | ⟨0, _⟩ => exact Fin.ext (by show l % 11 + 1 * 0 = l; omega)
  | ⟨1, _⟩ => exact Fin.ext (by show 0 + 1 * p.val = p.val; omega)

/-- The table a list of stores at the places of 176 blocks leaves, when each block holds its part. -/
theorem place_emb (n : ℕ) (hn : n < 176) (z : S1x8x128.Idx) :
    (place n).emb z = ix3 (⟨n / 16, by omega⟩ : Fin 11) (⟨(z 1).val, (z 1).isLt⟩ : Fin 8) (⟨128 * (n % 16) + (z 2).val, by have : (z 2).val < 128 := (z 2).isLt; omega⟩ : Fin 2048) := by
  funext a
  have h0 : (z 0).val = 0 := by have : (z 0).val < 1 := (z 0).isLt; omega
  match a with
  | ⟨0, _⟩ => exact Fin.ext (by show n / 16 % 11 + 1 * (z 0).val = n / 16; omega)
  | ⟨1, _⟩ => exact Fin.ext (by show 0 + 1 * (z 1).val = (z 1).val; omega)
  | ⟨2, _⟩ => exact Fin.ext (by show 128 * (n % 16) + 1 * (z 2).val = 128 * (n % 16) + (z 2).val; omega)

/-- A block under a leading axis of one. -/
theorem cast_apply (v : FVec Ideal S8x128 .f32) (z : S1x8x128.Idx) :
    shapeCast S1x8x128 v shapeCasts_S8x128_S1x8x128 z = v (ix2 (z 1) (z 2)) := by
  pointwise

/-- Every store of a cosine puts down the cosines of its place. -/
theorem cosPieces_of (x : Vec Ideal S11x1024 .f32) (hX : M.view.read (Elt Ideal) X = x) : ∀ n ≤ 176, ∀ p ∈ cosPieces M X n, ∀ z,
    p.2 z = (fun y : S11x8x2048.Idx => (co (angles x) (y 0).val (y 2).val : EReal)) (p.1.emb z) := by
  intro n
  induction n with
  | zero => intro _ p hp; exact absurd hp (List.not_mem_nil)
  | succ n ih =>
    intro hn p hp
    rcases List.mem_cons.mp hp with rfl | hp
    · intro z
      rw [place_emb n (by omega)]
      refine (cast_apply _ z).trans ?_
      exact spread_apply _ (fun q => Ideal.cos (angles x (n / 16) q)) (fun s q => congrArg Ideal.cos (angle_apply M X x hX _ (by omega) s q)) _ _ (by omega) (by omega) _ _
    · exact ih (by omega) p hp

/-- Every store of a sine puts down the signed sines of its place. -/
theorem sinPieces_of (x : Vec Ideal S11x1024 .f32) (hX : M.view.read (Elt Ideal) X = x) : ∀ n ≤ 176, ∀ p ∈ sinPieces M X n, ∀ z,
    p.2 z = (fun y : S11x8x2048.Idx => (si (angles x) (y 0).val (y 2).val : EReal)) (p.1.emb z) := by
  intro n
  induction n with
  | zero => intro _ p hp; exact absurd hp (List.not_mem_nil)
  | succ n ih =>
    intro hn p hp
    rcases List.mem_cons.mp hp with rfl | hp
    · intro z
      rw [place_emb n (by omega)]
      refine (cast_apply _ z).trans ?_
      exact signed_apply _ (fun q => Ideal.sin (angles x (n / 16) q)) (fun s q => congrArg Ideal.sin (angle_apply M X x hX _ (by omega) s q)) _ _ (by omega) (by omega) _ _
    · exact ih (by omega) p hp

end Cert.KernelIdeal.Prep

end
-- ==== Proof.Trip1.lean ====
/-
  One trip of the dequantisation loop. A trip turns the codes of 32 rows of the weight matrix into sixteen blocks of
  128 columns: each byte is spread over four lanes, shifted to its field, and the group's zero point and scale applied.
-/
module

public import proofs.«01_k».proof.Proof.Gen.KernelIdeal.Loops
public import Idealize.ShloMosaic.Lib.Tactic

@[expose] public section

noncomputable section

namespace Cert.KernelIdeal.Deq

open Idealize.ShloMosaic Idealize.ShloMosaic.TcCoe Idealize.ShloMosaic.Tactic Idealize.SL.Sem
open Cert.KernelIdeal Cert.KernelIdeal.Gen

variable {F : FTy → Type} [FloatOps F]

/-- The lane number of every lane of an 8 × 128 block. -/
def lanes : IVec S8x128 32 := iota .tc S8x128 32 [1] iota_S8x128_d1_w32

/-- An 8 × 128 index after the addition of 128 to a negative number. -/
def idx8 (p : IVec S8x128 32) : IVec S8x128 32 :=
  shapeCast S8x128 (shapeCast S8x128x1 (select (cmpi .slt p (broadcast S8x128 0#32))
    (addi p (broadcast S8x128 128#32)) p) shapeCasts_S8x128_S8x128x1) shapeCasts_S8x128x1_S8x128

/-- A 32 × 128 index after the addition of 128 to a negative number. -/
def idx32 (p : IVec S32x128 32) : IVec S32x128 32 :=
  shapeCast S32x128 (shapeCast S32x128x1 (select (cmpi .slt p (broadcast S32x128 0#32))
    (addi p (broadcast S32x128 128#32)) p) shapeCasts_S32x128_S32x128x1) shapeCasts_S32x128x1_S32x128

/-- How far each lane's field lies from the low end of its byte. -/
def shift : IVec S8x128 32 := muli (andi lanes (broadcast S8x128 3#32)) (broadcast S8x128 2#32)

/-- The byte position, within a block of 128 bytes, that each lane of column block `b` reads. -/
def bytePos (b : ℕ) : IVec S8x128 32 :=
  addi (shrsi lanes (broadcast S8x128 2#32)) (broadcast S8x128 (BitVec.ofNat 32 (32 * (b % 4))))

/-- The codes of column block `b`, from the block of bytes that holds them. -/
def code (w : Vec F S32x128 .i8) (b : ℕ) : IVec S32x128 8 :=
  bitcast S32x128 8 (andi (shrui (dynamicGather 1 (bitcast S8x128 32 w bitcasts_S32x128_w8_S8x128_w32) (idx8 (bytePos b))) shift)
    (broadcast S8x128 50529027#32)) bitcasts_S8x128_w32_S32x128_w8

/-- The number of the group each lane of column block `b` belongs to. -/
def group8 (b : ℕ) : IVec S8x128 32 :=
  addi (broadcast S8x128 (BitVec.ofNat 32 (2 * b))) (shrsi lanes (broadcast S8x128 6#32))

/-- The same for all 32 rows. -/
def group (b : ℕ) : IVec S32x128 32 :=
  concatenate S32x128 0 [⟨S8x128, group8 b⟩, ⟨S8x128, group8 b⟩, ⟨S8x128, group8 b⟩, ⟨S8x128, group8 b⟩] concatenates_S8x128_S8x128_S8x128_S8x128_S32x128_d0

/-- Zero points and scales side by side. -/
def zeroScale (z s : Vec F S32x32 .bf16) : FVec F S32x128 .f32 :=
  extf .f32 (concatenate S32x128 1 [⟨S32x32, z⟩, ⟨S32x32, s⟩, ⟨S32x32, z⟩, ⟨S32x32, s⟩] concatenates_S32x32_S32x32_S32x32_S32x32_S32x128_d1) bitsLt_bf16_f32

/-- Column block `b` of the weights of a trip: code minus zero point, times scale. -/
def weight (w : ℕ → Vec F S32x128 .i8) (z s : Vec F S32x32 .bf16) (b : ℕ) : FVec F S32x128 .bf16 :=
  shapeCast S32x128 (mulf (subf (sitofp .bf16 (code (w (b / 4)) b))
    (truncf .bf16 (dynamicGather 1 (zeroScale z s) (idx32 (group b))) bitsLt_bf16_f32))
    (truncf .bf16 (dynamicGather 1 (zeroScale z s) (idx32 (addi (group b) (broadcast S32x128 32#32)))) bitsLt_bf16_f32)) shapeCasts_S32x128_S32x128

/-- The four blocks of bytes a trip reads. -/
def bytes (i : grid0.Coords) (h : k0_cond1 i = 1#1) (M : Memref sig .tc .vmem S8192x512 .i8) (X : BufTy.Contents (Elt F) M.view.ty) (k : Fin k0_t1_loop.trips) : ℕ → Vec F S32x128 .i8
  | 0 => M.view.readAt (Elt F) (Rect.unit (s := S8192x512) (k0_off2 k) S32x128.size (k0_off2_inb i k h)).toLoadRect X
  | 1 => M.view.readAt (Elt F) (Rect.unit (s := S8192x512) (k0_off7 k) S32x128.size (k0_off7_inb i k h)).toLoadRect X
  | 2 => M.view.readAt (Elt F) (Rect.unit (s := S8192x512) (k0_off12 k) S32x128.size (k0_off12_inb i k h)).toLoadRect X
  | _ => M.view.readAt (Elt F) (Rect.unit (s := S8192x512) (k0_off17 k) S32x128.size (k0_off17_inb i k h)).toLoadRect X

/-- The rows of a table of 32 groups that a trip reads. -/
def groups (i : grid0.Coords) (h : k0_cond1 i = 1#1) (M : Memref sig .tc .vmem S8192x32 .bf16) (X : BufTy.Contents (Elt F) M.view.ty) (k : Fin k0_t1_loop.trips) : Vec F S32x32 .bf16 :=
  M.view.readAt (Elt F) (Rect.unit (s := S8192x32) (k0_off1 k) S32x32.size (k0_off1_inb i k h)).toLoadRect X

/-- One trip stores the sixteen column blocks of its 32 rows. -/
theorem trip_pieces (𝒱 : Variants) (c : Dev nD) (bd : Option 𝒱.V) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (k0_h1 : k0_cond1 i = 1#1) (X_arg4 : BufTy.Contents (Elt F) arg4.view.ty) (X_arg5 : BufTy.Contents (Elt F) arg5.view.ty) (X_arg6 : BufTy.Contents (Elt F) arg6.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg4 X_arg5 X_arg6 k)
      = [
        ⟨Rect.unit (s := S8192x2048) (k0_off21 k) S32x128.size (k0_off21_inb i k k0_h1), weight (bytes i k0_h1 arg4 X_arg4 k) (groups i k0_h1 arg5 X_arg5 k) (groups i k0_h1 arg6 X_arg6 k) 15⟩,
        ⟨Rect.unit (s := S8192x2048) (k0_off20 k) S32x128.size (k0_off20_inb i k k0_h1), weight (bytes i k0_h1 arg4 X_arg4 k) (groups i k0_h1 arg5 X_arg5 k) (groups i k0_h1 arg6 X_arg6 k) 14⟩,
        ⟨Rect.unit (s := S8192x2048) (k0_off19 k) S32x128.size (k0_off19_inb i k k0_h1), weight (bytes i k0_h1 arg4 X_arg4 k) (groups i k0_h1 arg5 X_arg5 k) (groups i k0_h1 arg6 X_arg6 k) 13⟩,
        ⟨Rect.unit (s := S8192x2048) (k0_off18 k) S32x128.size (k0_off18_inb i k k0_h1), weight (bytes i k0_h1 arg4 X_arg4 k) (groups i k0_h1 arg5 X_arg5 k) (groups i k0_h1 arg6 X_arg6 k) 12⟩,
        ⟨Rect.unit (s := S8192x2048) (k0_off16 k) S32x128.size (k0_off16_inb i k k0_h1), weight (bytes i k0_h1 arg4 X_arg4 k) (groups i k0_h1 arg5 X_arg5 k) (groups i k0_h1 arg6 X_arg6 k) 11⟩,
        ⟨Rect.unit (s := S8192x2048) (k0_off15 k) S32x128.size (k0_off15_inb i k k0_h1), weight (bytes i k0_h1 arg4 X_arg4 k) (groups i k0_h1 arg5 X_arg5 k) (groups i k0_h1 arg6 X_arg6 k) 10⟩,
        ⟨Rect.unit (s := S8192x2048) (k0_off14 k) S32x128.size (k0_off14_inb i k k0_h1), weight (bytes i k0_h1 arg4 X_arg4 k) (groups i k0_h1 arg5 X_arg5 k) (groups i k0_h1 arg6 X_arg6 k) 9⟩,
        ⟨Rect.unit (s := S8192x2048) (k0_off13 k) S32x128.size (k0_off13_inb i k k0_h1), weight (bytes i k0_h1 arg4 X_arg4 k) (groups i k0_h1 arg5 X_arg5 k) (groups i k0_h1 arg6 X_arg6 k) 8⟩,
        ⟨Rect.unit (s := S8192x2048) (k0_off11 k) S32x128.size (k0_off11_inb i k k0_h1), weight (bytes i k0_h1 arg4 X_arg4 k) (groups i k0_h1 arg5 X_arg5 k) (groups i k0_h1 arg6 X_arg6 k) 7⟩,
        ⟨Rect.unit (s := S8192x2048) (k0_off10 k) S32x128.size (k0_off10_inb i k k0_h1), weight (bytes i k0_h1 arg4 X_arg4 k) (groups i k0_h1 arg5 X_arg5 k) (groups i k0_h1 arg6 X_arg6 k) 6⟩,
        ⟨Rect.unit (s := S8192x2048) (k0_off9 k) S32x128.size (k0_off9_inb i k k0_h1), weight (bytes i k0_h1 arg4 X_arg4 k) (groups i k0_h1 arg5 X_arg5 k) (groups i k0_h1 arg6 X_arg6 k) 5⟩,
        ⟨Rect.unit (s := S8192x2048) (k0_off8 k) S32x128.size (k0_off8_inb i k k0_h1), weight (bytes i k0_h1 arg4 X_arg4 k) (groups i k0_h1 arg5 X_arg5 k) (groups i k0_h1 arg6 X_arg6 k) 4⟩,
        ⟨Rect.unit (s := S8192x2048) (k0_off6 k) S32x128.size (k0_off6_inb i k k0_h1), weight (bytes i k0_h1 arg4 X_arg4 k) (groups i k0_h1 arg5 X_arg5 k) (groups i k0_h1 arg6 X_arg6 k) 3⟩,
        ⟨Rect.unit (s := S8192x2048) (k0_off5 k) S32x128.size (k0_off5_inb i k k0_h1), weight (bytes i k0_h1 arg4 X_arg4 k) (groups i k0_h1 arg5 X_arg5 k) (groups i k0_h1 arg6 X_arg6 k) 2⟩,
        ⟨Rect.unit (s := S8192x2048) (k0_off4 k) S32x128.size (k0_off4_inb i k k0_h1), weight (bytes i k0_h1 arg4 X_arg4 k) (groups i k0_h1 arg5 X_arg5 k) (groups i k0_h1 arg6 X_arg6 k) 1⟩,
        ⟨Rect.unit (s := S8192x2048) (k0_off3 k) S32x128.size (k0_off3_inb i k k0_h1), weight (bytes i k0_h1 arg4 X_arg4 k) (groups i k0_h1 arg5 X_arg5 k) (groups i k0_h1 arg6 X_arg6 k) 0⟩] := by
  sl_kernel_rfl

end Cert.KernelIdeal.Deq

end
-- ==== Proof.Trip1Value.lean ====
/-
  What one trip of the dequantisation loop stores, number by number: code minus zero point, times scale.
-/
module

public import proofs.«01_k».proof.Proof.Trip1
public import proofs.«01_k».proof.Proof.Spec
public import Idealize.ShloMosaic.Lib.BitcastFour
public import Idealize.ShloMosaic.Lib.Pipeline.Value

@[expose] public section

noncomputable section

namespace Cert.KernelIdeal.Deq

open Idealize.ShloMosaic Idealize.ShloMosaic.TcCoe Idealize.SL.Sem
open Cert.KernelIdeal Cert.KernelIdeal.Gen Cert.Spec

/-- The lane number, read. -/
theorem lanes_apply (s : Fin 8) (r : Fin 128) : lanes (ix2 s r) = BitVec.ofNat 32 r.val := by
  pointwise [lanes]

/-- A small number is not negative. -/
theorem slt_zero (x : BitVec 32) (h : x.toNat < 2 ^ 31) : x.slt 0#32 = false := by
  rw [BitVec.slt_eq_decide, decide_eq_false_iff_not, BitVec.toInt_eq_toNat_of_lt (by omega)]
  simp

/-- An index that is not negative is left as it is. -/
theorem idx8_apply (p : IVec S8x128 32) (j : S8x128.Idx) (h : (p j).toNat < 2 ^ 31) : idx8 p j = p j := by
  unfold idx8
  rw [shapeCast_shapeCast]
  show (if (BitVec.ofBool ((p j).slt 0#32)) = 1#1 then p j + 128#32 else p j) = _
  rw [if_neg]
  rw [slt_zero _ h]; decide

/-- The same for 32 rows. -/
theorem idx32_apply (p : IVec S32x128 32) (j : S32x128.Idx) (h : (p j).toNat < 2 ^ 31) : idx32 p j = p j := by
  unfold idx32
  rw [shapeCast_shapeCast]
  show (if (BitVec.ofBool ((p j).slt 0#32)) = 1#1 then p j + 128#32 else p j) = _
  rw [if_neg]
  rw [slt_zero _ h]; decide

/-- The byte each lane reads. -/
theorem bytePos_toNat (b : ℕ) (s : Fin 8) (r : Fin 128) : (bytePos b (ix2 s r)).toNat = r.val / 4 + 32 * (b % 4) := by
  have hb : b % 4 = 0 ∨ b % 4 = 1 ∨ b % 4 = 2 ∨ b % 4 = 3 := by omega
  show (IntOp.shrsi .vector (lanes (ix2 s r)) 2#32 + BitVec.ofNat 32 (32 * (b % 4))).toNat = _
  rw [lanes_apply]
  rcases hb with hb | hb | hb | hb <;> rw [hb] <;> revert r <;> decide

/-- The shift of each lane. -/
theorem shift_apply (s : Fin 8) (r : Fin 128) : shift (ix2 s r) = BitVec.ofNat 32 (2 * (r.val % 4)) := by
  show (lanes (ix2 s r) &&& 3#32) * 2#32 = _
  rw [lanes_apply]
  revert r; decide

/-- Which bits of the mask are set. -/
theorem mask_bit (q : ℕ) (hq : q < 32) : (50529027#32).getLsbD q = decide (q % 8 < 2) := by
  interval_cases q <;> decide

/-- A code is two bits of a byte. -/
theorem code_apply {F : FTy → Type} [FloatOps F] (w : Vec F S32x128 .i8) (b : ℕ) (r : Fin 32) (l : Fin 128) :
    code w b (ix2 r l) = (w (ix2 r ⟨l.val / 4 + 32 * (b % 4), by omega⟩) >>> (2 * (l.val % 4))) &&& 3#8 := by
  have hp0 : ∀ a : Fin S8x128.rank, a.val + 2 = S8x128.rank → r.val / 4 < S8x128.size a := by
    intro a ha
    match a with
    | ⟨0, _⟩ => (show r.val / 4 < 8; omega)
    | ⟨1, _⟩ => exact absurd ha (by show ¬ 1 + 2 = 2; omega)
  have hsrc : bitcasts_S8x128_w32_S32x128_w8.srcIdx (ix2 r l) (r.val / 4) hp0 = ix2 (⟨r.val / 4, by omega⟩ : Fin 8) l := by
    funext c
    match c with
    | ⟨0, _⟩ => exact Fin.ext (bitcasts_S8x128_w32_S32x128_w8.srcIdx_row _ _ _ ⟨0, Nat.zero_lt_two⟩ rfl)
    | ⟨1, _⟩ => exact Fin.ext (bitcasts_S8x128_w32_S32x128_w8.srcIdx_other _ _ _ ⟨1, Nat.one_lt_two⟩ (by show ¬ 1 + 2 = 2; omega))
  apply BitVec.eq_of_getLsbD_eq
  intro q hq
  unfold code
  rw [bitcast_getLsbD _ _ _ q hq (by decide)]
  have hrow : S32x128.row (ix2 r l) = r.val := rfl
  have hdiv : (S32x128.row (ix2 r l) * 8 + q) / 32 = r.val / 4 := by rw [hrow]; omega
  have hmod : (S32x128.row (ix2 r l) * 8 + q) % 32 = 8 * (r.val % 4) + q := by rw [hrow]; omega
  rw [Shape.Bitcasts.srcIdx_congr _ _ hdiv _ hp0, hsrc, hmod]
  show ((IntOp.shrui .vector (dynamicGather 1 (bitcast S8x128 32 w bitcasts_S32x128_w8_S8x128_w32) (idx8 (bytePos b)) (ix2 _ l)) (shift (ix2 _ l))) &&& 50529027#32).getLsbD _ = _
  have hg : dynamicGather 1 (bitcast S8x128 32 w bitcasts_S32x128_w8_S8x128_w32) (idx8 (bytePos b)) (ix2 (⟨r.val / 4, by omega⟩ : Fin 8) l)
      = bitcast S8x128 32 w bitcasts_S32x128_w8_S8x128_w32 (ix2 (⟨r.val / 4, by omega⟩ : Fin 8) (⟨l.val / 4 + 32 * (b % 4), by omega⟩ : Fin 128)) := by
    unfold dynamicGather
    congr 1
    funext a
    match a with
    | ⟨0, _⟩ => rfl
    | ⟨1, _⟩ =>
      apply Fin.ext
      show (idx8 (bytePos b) (ix2 _ l)).toNat % 128 = _
      rw [idx8_apply _ _ (by rw [bytePos_toNat]; omega), bytePos_toNat]
      exact Nat.mod_eq_of_lt (by omega)
  rw [hg, shift_apply]
  unfold IntOp.shrui
  rw [BitVec.toNat_ofNat, Nat.mod_eq_of_lt (by omega : 2 * (l.val % 4) < 2 ^ 32), if_pos (by omega), BitVec.getLsbD_and,
    mask_bit _ (by omega), BitVec.getLsbD_and]
  rw [BitVec.ushiftRight_eq', BitVec.toNat_ofNat, Nat.mod_eq_of_lt (by omega : 2 * (l.val % 4) < 2 ^ 32), BitVec.getLsbD_ushiftRight, BitVec.getLsbD_ushiftRight]
  by_cases h2 : q < 2
  · rw [ix2_eq_valueIdx, bitcast_8_32_getLsbD_ix2 w bitcasts_S32x128_w8_S8x128_w32 _ _ _ (by omega) r (by show r.val = 4 * (r.val / 4) + _; omega)]
    have e : (2 * (l.val % 4) + (8 * (r.val % 4) + q)) % 8 = 2 * (l.val % 4) + q := by omega
    rw [e, ix2_eq_valueIdx]
    have h3 : (3#8).getLsbD q = true := by interval_cases q <;> rfl
    rw [h3, decide_eq_true (by omega : (8 * (r.val % 4) + q) % 8 < 2)]
  · have h3 : (3#8).getLsbD q = false := by interval_cases q <;> first | omega | rfl
    rw [h3, decide_eq_false (by omega : ¬ (8 * (r.val % 4) + q) % 8 < 2), Bool.and_false, Bool.and_false]

/-- A code as a number: one of four, from a byte and a lane. -/
def codeNum (x : BitVec 8) (j : ℕ) : EReal := (((x.toNat / 4 ^ (j % 4) % 4 : ℕ) : ℝ) : EReal)

/-- The number a code stands for. -/
theorem toInt_code (x : BitVec 8) (k : ℕ) (hk : k < 4) : ((x >>> (2 * k)) &&& 3#8).toInt = ((x.toNat / 4 ^ k % 4 : ℕ) : ℤ) := by
  interval_cases k <;> revert x <;> decide

/-- The group of each lane. -/
theorem group8_toNat (b : ℕ) (hb : b < 16) (s : Fin 8) (r : Fin 128) : (group8 b (ix2 s r)).toNat = 2 * b + r.val / 64 := by
  show (BitVec.ofNat 32 (2 * b) + IntOp.shrsi .vector (lanes (ix2 s r)) 6#32).toNat = _
  rw [lanes_apply]
  have h : ∀ r : Fin 128, (IntOp.shrsi .vector (BitVec.ofNat 32 r.val) 6#32).toNat = r.val / 64 := by decide
  rw [BitVec.toNat_add, BitVec.toNat_ofNat, h]
  omega

/-- The same for all 32 rows. -/
theorem group_toNat (b : ℕ) (hb : b < 16) (r : Fin 32) (l : Fin 128) : (group b (ix2 r l)).toNat = 2 * b + l.val / 64 := by
  have h : ∀ s, (group8 b (ix2 s l)).toNat = 2 * b + l.val / 64 := fun s => group8_toNat b hb s l
  unfold group
  pointwise
  split_ifs <;> exact h _

/-- A zero point stands in lanes 0 to 31, a scale in lanes 32 to 63. -/
theorem zeroScale_zero (z s : Vec Ideal S32x32 .bf16) (r : Fin 32) (g : ℕ) (hg : g < 32) :
    zeroScale z s (ix2 r (⟨g, by omega⟩ : Fin 128)) = z (ix2 r ⟨g, hg⟩) := by
  unfold zeroScale
  pointwise
  rw [dif_pos hg]

theorem zeroScale_scale (z s : Vec Ideal S32x32 .bf16) (r : Fin 32) (g : ℕ) (hg : g < 32) :
    zeroScale z s (ix2 r (⟨g + 32, by omega⟩ : Fin 128)) = s (ix2 r ⟨g, hg⟩) := by
  unfold zeroScale
  pointwise
  rw [dif_neg (by omega), dif_pos (by omega)]
  simp only [Nat.add_sub_cancel]

/-- The gathered number at an index. -/
theorem gather32_apply (v : FVec Ideal S32x128 .f32) (p : IVec S32x128 32) (r : Fin 32) (l : Fin 128) (n : ℕ) (hn : n < 128)
    (hp : (p (ix2 r l)).toNat = n) : dynamicGather 1 v (idx32 p) (ix2 r l) = v (ix2 r ⟨n, hn⟩) := by
  unfold dynamicGather
  congr 1
  funext a
  match a with
  | ⟨0, _⟩ => rfl
  | ⟨1, _⟩ =>
    apply Fin.ext
    show (idx32 p (ix2 r l)).toNat % 128 = n
    rw [idx32_apply _ _ (by rw [hp]; omega), hp]; exact Nat.mod_eq_of_lt hn

/-- Column block `b` of the weights, read: the code of the column less its group's zero point, times the group's scale. -/
theorem weight_apply (w : ℕ → Vec Ideal S32x128 .i8) (z s : Vec Ideal S32x32 .bf16) (b : ℕ) (hb : b < 16) (r : Fin 32) (l : Fin 128) :
    weight w z s b (ix2 r l)
      = (codeNum (w (b / 4) (ix2 r ⟨l.val / 4 + 32 * (b % 4), by omega⟩)) l.val - z (ix2 r ⟨2 * b + l.val / 64, by omega⟩))
        * s (ix2 r ⟨2 * b + l.val / 64, by omega⟩) := by
  have hg := group_toNat b hb r l
  have hz : dynamicGather 1 (zeroScale z s) (idx32 (group b)) (ix2 r l) = z (ix2 r ⟨2 * b + l.val / 64, by omega⟩) := by
    rw [gather32_apply _ _ r l _ (by omega) hg, zeroScale_zero]
  have hs : dynamicGather 1 (zeroScale z s) (idx32 (addi (group b) (broadcast S32x128 32#32))) (ix2 r l) = s (ix2 r ⟨2 * b + l.val / 64, by omega⟩) := by
    have h2 : (addi (group b) (broadcast S32x128 32#32) (ix2 r l)).toNat = 2 * b + l.val / 64 + 32 := by
      show (group b (ix2 r l) + 32#32).toNat = _
      rw [BitVec.toNat_add, hg]
      show (_ + 32) % 2 ^ 32 = _
      omega
    rw [gather32_apply _ _ r l _ (by omega) h2, zeroScale_scale _ _ _ _ (by omega)]
  have hc : (sitofp .bf16 (code (F := Ideal) (w (b / 4)) b) : FVec Ideal S32x128 .bf16) (ix2 r l)
      = codeNum (w (b / 4) (ix2 r ⟨l.val / 4 + 32 * (b % 4), by omega⟩)) l.val := by
    show (((code (F := Ideal) (w (b / 4)) b (ix2 r l)).toInt : ℝ) : EReal) = _
    rw [code_apply, toInt_code _ _ (Nat.mod_lt _ (by decide))]
    rfl
  unfold weight
  rw [shapeCast_self]
  rw [mulf_apply, subf_apply, truncf_apply, truncf_apply, hz, hs, hc]
  rfl

end Cert.KernelIdeal.Deq

end
-- ==== Proof.Places.lean ====
/-
  Numbers of a table by plain natural numbers, and where a rectangular part of a table puts its own numbers.
-/
module

public import Idealize.ShloMosaic.Lib.Pointwise
public import Idealize.ShloMosaic.Lib.Pipeline.Value

@[expose] public section

noncomputable section

namespace Cert.Places

open Idealize.ShloMosaic

/-- The entry of a table at row `r` and column `j`, zero outside it. -/
def at2 {m n : ℕ} {α : Type} [Zero α] (x : (⟨2, ![m, n]⟩ : Shape).Idx → α) (r j : ℕ) : α :=
  if h : r < m ∧ j < n then x (ix2 ⟨r, h.1⟩ ⟨j, h.2⟩) else 0

/-- An entry by its two numbers. -/
theorem at2_eq {m n : ℕ} {α : Type} [Zero α] (x : (⟨2, ![m, n]⟩ : Shape).Idx → α) (y : (⟨2, ![m, n]⟩ : Shape).Idx) :
    x y = at2 x (y 0).val (y 1).val := by
  unfold at2
  rw [dif_pos ⟨(y 0).isLt, (y 1).isLt⟩]
  congr 1
  exact eq_ix2 y

/-- The row of a part's place in the whole. -/
theorem unit_row {m n p q : ℕ} (off : Fin 2 → ℕ) (inb) (a b : ℕ) (h : off = ![a, b]) (z : (⟨2, ![p, q]⟩ : Shape).Idx) :
    ((Rect.unit (s := ⟨2, ![m, n]⟩) off ![p, q] inb).emb z 0).val = a + (z 0).val := by
  subst h
  show a + 1 * (z 0).val = a + (z 0).val
  omega

/-- The column of a part's place in the whole. -/
theorem unit_col {m n p q : ℕ} (off : Fin 2 → ℕ) (inb) (a b : ℕ) (h : off = ![a, b]) (z : (⟨2, ![p, q]⟩ : Shape).Idx) :
    ((Rect.unit (s := ⟨2, ![m, n]⟩) off ![p, q] inb).emb z 1).val = b + (z 1).val := by
  subst h
  show b + 1 * (z 1).val = b + (z 1).val
  omega

/-- What a load of a part reads. -/
theorem load {sig : RefSig} {κ : Kind} {sp : Space} {m n p q : ℕ} {e : EltTy} {Val : EltTy → Type} [Zero (Val e)]
    (M : Memref sig κ sp ⟨2, ![m, n]⟩ e) (X : M.view.ty.Contents Val)
    (x : (⟨2, ![m, n]⟩ : Shape).Idx → Val e) (hX : M.view.read Val X = x) (off : Fin 2 → ℕ) (inb) (a b : ℕ) (h : off = ![a, b])
    (z : (⟨2, ![p, q]⟩ : Shape).Idx) :
    M.view.readAt Val (Rect.unit (s := ⟨2, ![m, n]⟩) off ![p, q] inb).toLoadRect X z = at2 x (a + (z 0).val) (b + (z 1).val) := by
  subst hX
  rw [← unit_row (m := m) (n := n) off inb a b h z, ← unit_col (m := m) (n := n) off inb a b h z, ← at2_eq]
  rfl

/-- What holds of all members holds of one. -/
theorem all_of {α : Type} {l : List α} {P : α → Prop} (h : ∀ p ∈ l, P p) {a : α} (ha : a ∈ l) : P a := h a ha

end Cert.Places

end
-- ==== Proof.Meaning.lean ====
/-
  What both programs compute, as functions of the argument arrays: the rotated rows, the dequantised weights, and the
  product of the two with the bias added.
-/
module

public import proofs.«01_k».proof.Proof.Spec

@[expose] public section

noncomputable section

namespace Cert.Meaning

open Idealize.ShloMosaic Cert.Spec

/-- A table of angles as a function of natural numbers. -/
def angles (x : FVec Ideal (⟨2, ![11, 1024]⟩ : Shape) .f32) (l p : ℕ) : EReal :=
  if h : l < 11 ∧ p < 1024 then x (ix2 ⟨l, h.1⟩ ⟨p, h.2⟩) else 0

/-- A row of the input, each number times the smoothing factor of its column. -/
def entry (x : FVec Ideal (⟨2, ![15360, 2048]⟩ : Shape) .bf16) (sm : FVec Ideal (⟨1, ![2048]⟩ : Shape) .f32) (r : Fin 15360)
    (j : ℕ) : EReal := if h : j < 2048 then x (ix2 r ⟨j, h⟩) * sm (ix1 ⟨j, h⟩) else 0

/-- The rotated rows. -/
def rotated (x : FVec Ideal (⟨2, ![15360, 2048]⟩ : Shape) .bf16) (sm : FVec Ideal (⟨1, ![2048]⟩ : Shape) .f32)
    (th : FVec Ideal (⟨2, ![11, 1024]⟩ : Shape) .f32) : FVec Ideal (⟨2, ![15360, 2048]⟩ : Shape) .bf16 :=
  fun y => rot (angles th) (entry x sm (y 0)) (y 1).val

/-- A code as a number: one of four, from a byte and a column. -/
def codeNum (x : BitVec 8) (j : ℕ) : EReal := (((x.toNat / 4 ^ (j % 4) % 4 : ℕ) : ℝ) : EReal)

/-- A dequantised weight: row `n`, column `j`. -/
def weightAt (w : IVec (⟨2, ![8192, 512]⟩ : Shape) 8) (z s : FVec Ideal (⟨2, ![8192, 32]⟩ : Shape) .bf16) (n : Fin 8192)
    (j : Fin 2048) : EReal :=
  (codeNum (w (ix2 n ⟨j.val / 4, by omega⟩)) j.val - z (ix2 n ⟨j.val / 64, by omega⟩)) * s (ix2 n ⟨j.val / 64, by omega⟩)

/-- The rotated rows times the weights, plus the bias. -/
def product (x : FVec Ideal (⟨2, ![15360, 2048]⟩ : Shape) .bf16) (w : Fin 8192 → Fin 2048 → EReal)
    (b : FVec Ideal (⟨1, ![8192]⟩ : Shape) .f32) : FVec Ideal (⟨2, ![15360, 8192]⟩ : Shape) .bf16 :=
  fun y => (∑ k : Fin 2048, x (ix2 (y 0) k) * w (y 1) k) + b (ix1 (y 1))

end Cert.Meaning

end
-- ==== Proof.Weights.lean ====
/-
  What the dequantisation loop stores: the table of weights.
-/
module

public import proofs.«01_k».proof.Proof.Trip1Value
public import proofs.«01_k».proof.Proof.Places
public import proofs.«01_k».proof.Proof.Meaning

@[expose] public section

noncomputable section

namespace Cert.KernelIdeal.Deq

open Idealize.ShloMosaic Idealize.ShloMosaic.TcCoe Idealize.SL.Sem
open Cert.KernelIdeal Cert.KernelIdeal.Gen Cert.Spec Cert.Places

instance : Zero (Elt Ideal .bf16) := inferInstanceAs (Zero EReal)
instance : Zero (Elt Ideal .i8) := inferInstanceAs (Zero (BitVec 8))

/-- The table of weights from the codes, zero points and scales. -/
def table (w : Vec Ideal S8192x512 .i8) (z s : Vec Ideal S8192x32 .bf16) : Vec Ideal S8192x2048 .bf16 :=
  fun y => Meaning.weightAt w z s (y 0) (y 1)

/-- An entry of it, by plain numbers. -/
theorem table_eq (w : Vec Ideal S8192x512 .i8) (z s : Vec Ideal S8192x32 .bf16) (y : S8192x2048.Idx) (r j : ℕ)
    (h0 : (y 0).val = r) (h1 : (y 1).val = j) :
    table w z s y = (codeNum (at2 (m := 8192) (n := 512) (α := BitVec 8) w r (j / 4)) j - at2 (m := 8192) (n := 32) (α := EReal) z r (j / 64))
      * at2 (m := 8192) (n := 32) (α := EReal) s r (j / 64) := by
  subst h0; subst h1
  have hj : (y 1).val < 2048 := (y 1).isLt
  have e1 := at2_eq (m := 8192) (n := 512) (α := BitVec 8) w (ix2 (y 0) ⟨(y 1).val / 4, by omega⟩)
  have e2 := at2_eq (m := 8192) (n := 32) (α := EReal) z (ix2 (y 0) ⟨(y 1).val / 64, by omega⟩)
  have e3 := at2_eq (m := 8192) (n := 32) (α := EReal) s (ix2 (y 0) ⟨(y 1).val / 64, by omega⟩)
  show (Meaning.codeNum (w (ix2 (y 0) ⟨(y 1).val / 4, by omega⟩)) (y 1).val - z (ix2 (y 0) ⟨(y 1).val / 64, by omega⟩))
    * s (ix2 (y 0) ⟨(y 1).val / 64, by omega⟩) = _
  rw [e1, e2, e3]
  rfl

/-- A code depends on the column through its remainder by four alone. -/
theorem codeNum_add (x : BitVec 8) (b l : ℕ) : codeNum x (128 * b + l) = codeNum x l := by
  unfold codeNum
  rw [show (128 * b + l) % 4 = l % 4 by omega]

variable {arg4 : Memref sig .tc .vmem S8192x512 .i8} {arg5 arg6 : Memref sig .tc .vmem S8192x32 .bf16}
variable {X4 : BufTy.Contents (Elt Ideal) arg4.view.ty} {X5 : BufTy.Contents (Elt Ideal) arg5.view.ty} {X6 : BufTy.Contents (Elt Ideal) arg6.view.ty}
variable {w : Vec Ideal S8192x512 .i8} {zs sc : Vec Ideal S8192x32 .bf16}

/-- A block of bytes of a trip, read. -/
theorem bytes_holds (h4 : arg4.view.read (Elt Ideal) X4 = w) (i : grid0.Coords) (k0_h1 : k0_cond1 i = 1#1) (k : Fin k0_t1_loop.trips) (q : ℕ) (hq : q < 4)
    (y : S32x128.Idx) : bytes i k0_h1 arg4 X4 k q y = at2 (m := 8192) (n := 512) w (32 * k.val + (y 0).val) (128 * q + (y 1).val) := by
  have go := fun off inb b h => load (p := 32) (q := 128) arg4 X4 w h4 off inb (32 * k.val) b h y
  match q, hq with
  | 0, _ => exact go _ (k0_off2_inb i k k0_h1) _ (k0_off2_eq k)
  | 1, _ => exact go _ (k0_off7_inb i k k0_h1) _ (k0_off7_eq k)
  | 2, _ => exact go _ (k0_off12_inb i k k0_h1) _ (k0_off12_eq k)
  | 3, _ => exact go _ (k0_off17_inb i k k0_h1) _ (k0_off17_eq k)
  | n + 4, h => exact absurd h (by omega)

/-- The zero points or scales of a trip, read. -/
theorem groups_holds (h5 : arg5.view.read (Elt Ideal) X5 = zs) (i : grid0.Coords) (k0_h1 : k0_cond1 i = 1#1) (k : Fin k0_t1_loop.trips)
    (y : S32x32.Idx) : groups i k0_h1 arg5 X5 k y = at2 (m := 8192) (n := 32) zs (32 * k.val + (y 0).val) (y 1).val := by
  refine (load (p := 32) (q := 32) arg5 X5 zs h5 _ (k0_off1_inb i k k0_h1) (32 * k.val) 0 (k0_off1_eq k) y).trans ?_
  rw [Nat.zero_add]

/-- What one trip stores for column block `b` is that block of the table. -/
theorem weight_of (h4 : arg4.view.read (Elt Ideal) X4 = w) (h5 : arg5.view.read (Elt Ideal) X5 = zs) (h6 : arg6.view.read (Elt Ideal) X6 = sc)
    (i : grid0.Coords) (k0_h1 : k0_cond1 i = 1#1) (k : Fin k0_t1_loop.trips)
    (b : ℕ) (hb : b < 16) (off : Fin 2 → ℕ) (inb) (ho : off = ![32 * k.val, 128 * b]) (z : S32x128.Idx) :
    weight (bytes i k0_h1 arg4 X4 k) (groups i k0_h1 arg5 X5 k) (groups i k0_h1 arg6 X6 k) b z
      = table w zs sc ((Rect.unit (s := S8192x2048) off S32x128.size inb).emb z) := by
  have hz : z = ix2 (z 0) (z 1) := eq_ix2 z
  have hl : (z 1).val < 128 := (z 1).isLt
  refine (congrArg (weight _ _ _ b) hz).trans ((weight_apply _ _ _ b hb (z 0) (z 1)).trans ?_)
  rw [table_eq w zs sc _ (32 * k.val + (z 0).val) (128 * b + (z 1).val)
    (unit_row (m := 8192) (n := 2048) (p := 32) (q := 128) off inb _ _ ho z)
    (unit_col (m := 8192) (n := 2048) (p := 32) (q := 128) off inb _ _ ho z), codeNum_add,
    bytes_holds h4 i k0_h1 k (b / 4) (by omega), groups_holds h5, groups_holds h6]
  have e1 : (128 * b + (z 1).val) / 4 = 128 * (b / 4) + ((z 1).val / 4 + 32 * (b % 4)) := by omega
  have e2 : (128 * b + (z 1).val) / 64 = 2 * b + (z 1).val / 64 := by omega
  rw [e1, e2]
  rfl

/-- Every store of the first `n` trips puts down its part of the table. -/
theorem pieces_of (h4 : arg4.view.read (Elt Ideal) X4 = w) (h5 : arg5.view.read (Elt Ideal) X5 = zs) (h6 : arg6.view.read (Elt Ideal) X6 = sc)
    (𝒱 : Variants) (c : Dev nD) (bd : Option 𝒱.V) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (harg4 : arg4.IsWhole) (harg5 : arg5.IsWhole) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (k0_h1 : k0_cond1 i = 1#1) :
    ∀ n ≤ k0_t1_loop.trips, ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X4 X5 X6 n,
      ∀ z, p.2 z = table w zs sc (p.1.emb z) := by
  intro n
  induction n with
  | zero => intro _ p hp; exact absurd hp (List.not_mem_nil)
  | succ n ih =>
    intro hn p hp
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_h1 X4 X5 X6 ⟨n, hn⟩
    rw [e, trip_pieces] at hp
    rcases List.mem_append.mp hp with hp | hp
    · have go := weight_of h4 h5 h6 i k0_h1 ⟨n, hn⟩
      refine all_of (P := fun q => ∀ z, q.2 z = table w zs sc (q.1.emb z)) ?_ hp
      exact
        List.forall_mem_cons.mpr ⟨go 15 (by decide) _ (k0_off21_inb i ⟨n, hn⟩ k0_h1) (k0_off21_eq ⟨n, hn⟩),
        List.forall_mem_cons.mpr ⟨go 14 (by decide) _ (k0_off20_inb i ⟨n, hn⟩ k0_h1) (k0_off20_eq ⟨n, hn⟩),
        List.forall_mem_cons.mpr ⟨go 13 (by decide) _ (k0_off19_inb i ⟨n, hn⟩ k0_h1) (k0_off19_eq ⟨n, hn⟩),
        List.forall_mem_cons.mpr ⟨go 12 (by decide) _ (k0_off18_inb i ⟨n, hn⟩ k0_h1) (k0_off18_eq ⟨n, hn⟩),
        List.forall_mem_cons.mpr ⟨go 11 (by decide) _ (k0_off16_inb i ⟨n, hn⟩ k0_h1) (k0_off16_eq ⟨n, hn⟩),
        List.forall_mem_cons.mpr ⟨go 10 (by decide) _ (k0_off15_inb i ⟨n, hn⟩ k0_h1) (k0_off15_eq ⟨n, hn⟩),
        List.forall_mem_cons.mpr ⟨go 9 (by decide) _ (k0_off14_inb i ⟨n, hn⟩ k0_h1) (k0_off14_eq ⟨n, hn⟩),
        List.forall_mem_cons.mpr ⟨go 8 (by decide) _ (k0_off13_inb i ⟨n, hn⟩ k0_h1) (k0_off13_eq ⟨n, hn⟩),
        List.forall_mem_cons.mpr ⟨go 7 (by decide) _ (k0_off11_inb i ⟨n, hn⟩ k0_h1) (k0_off11_eq ⟨n, hn⟩),
        List.forall_mem_cons.mpr ⟨go 6 (by decide) _ (k0_off10_inb i ⟨n, hn⟩ k0_h1) (k0_off10_eq ⟨n, hn⟩),
        List.forall_mem_cons.mpr ⟨go 5 (by decide) _ (k0_off9_inb i ⟨n, hn⟩ k0_h1) (k0_off9_eq ⟨n, hn⟩),
        List.forall_mem_cons.mpr ⟨go 4 (by decide) _ (k0_off8_inb i ⟨n, hn⟩ k0_h1) (k0_off8_eq ⟨n, hn⟩),
        List.forall_mem_cons.mpr ⟨go 3 (by decide) _ (k0_off6_inb i ⟨n, hn⟩ k0_h1) (k0_off6_eq ⟨n, hn⟩),
        List.forall_mem_cons.mpr ⟨go 2 (by decide) _ (k0_off5_inb i ⟨n, hn⟩ k0_h1) (k0_off5_eq ⟨n, hn⟩),
        List.forall_mem_cons.mpr ⟨go 1 (by decide) _ (k0_off4_inb i ⟨n, hn⟩ k0_h1) (k0_off4_eq ⟨n, hn⟩),
        List.forall_mem_cons.mpr ⟨go 0 (by decide) _ (k0_off3_inb i ⟨n, hn⟩ k0_h1) (k0_off3_eq ⟨n, hn⟩), fun _ h => absurd h List.not_mem_nil⟩⟩⟩⟩⟩⟩⟩⟩⟩⟩⟩⟩⟩⟩⟩⟩
    · exact ih (by omega) p hp

end Cert.KernelIdeal.Deq

end
-- ==== Proof.Trip2.lean ====
/-
  One trip of the rotation loop. The sixteen rows of a trip go through eleven butterfly layers block by block
  (sixteen blocks of 128 lanes, each in two halves of 8 rows). This module states the trip's sixteen stores as one
  short recursion over the layers.
-/
module

public import proofs.«01_k».proof.Proof.Gen.KernelIdeal.Loops
public import Idealize.ShloMosaic.Lib.Tactic

@[expose] public section

noncomputable section

namespace Cert.KernelIdeal.Unit

open Idealize.ShloMosaic Idealize.ShloMosaic.TcCoe Idealize.ShloMosaic.Tactic Idealize.SL.Sem
open Cert.KernelIdeal Cert.KernelIdeal.Gen

variable {F : FTy → Type} [FloatOps F]

/-- The lane number of every lane of an 8 × 128 block. -/
def lanes : IVec S8x128 32 := iota .tc S8x128 32 [1] iota_S8x128_d1_w32

/-- The lane each lane is paired with in layer `l`: its number with bit `l` flipped. -/
def partner (l : ℕ) : IVec S8x128 32 := xori lanes (broadcast S8x128 (BitVec.ofNat 32 (2 ^ l)))

/-- The same, after the addition of 128 to a negative number that an index computation carries out. -/
def partnerIdx (l : ℕ) : IVec S8x128 32 :=
  shapeCast S8x128 (shapeCast S8x128x1 (select (cmpi .slt (partner l) (broadcast S8x128 0#32))
    (addi (partner l) (broadcast S8x128 128#32)) (partner l)) shapeCasts_S8x128_S8x128x1) shapeCasts_S8x128x1_S8x128

/-- Sixteen blocks of 128 lanes in two halves of eight rows. -/
abbrev Blocks (F : FTy → Type) [FloatOps F] := ℕ → Bool → FVec F S8x128 .f32

/-- A layer that pairs lanes within a block: `c * v + s * (v at the partner lane)`. -/
def laneLayer (C S : ℕ → ℕ → FVec F S8x128 .f32) (l : ℕ) (v : Blocks F) : Blocks F :=
  fun b h => addf (mulf (C l b) (v b h)) (mulf (S l b) (dynamicGather 1 (v b h) (partnerIdx l)))

/-- A layer that pairs whole blocks: `c * v + s * (v of the partner block)`. -/
def blockLayer (C S : ℕ → ℕ → FVec F S8x128 .f32) (l : ℕ) (v : Blocks F) : Blocks F :=
  fun b h => addf (mulf (C l b) (v b h)) (mulf (S l b) (v (b ^^^ 2 ^ (l - 7)) h))

/-- The rows of a trip, times the smoothing factors. -/
def start (x : ℕ → Vec F S16x128 .bf16) (sm : ℕ → Vec F S1x128 .f32) : Blocks F := fun b h =>
  mulf (match h with
    | false => extractStridedSlice S8x128 ![0, 0] (extf .f32 (shapeCast S16x128 (x b) shapeCasts_S16x128_S16x128) bitsLt_bf16_f32) slices_S16x128_o0_0_S8x128
    | true => extractStridedSlice S8x128 ![8, 0] (extf .f32 (shapeCast S16x128 (x b) shapeCasts_S16x128_S16x128) bitsLt_bf16_f32) slices_S16x128_o8_0_S8x128)
    (broadcastTo S8x128 (shapeCast S1x128 (sm b) shapeCasts_S1x128_S1x128) broadcasts_S1x128_S8x128)

/-- The seven layers within the blocks. -/
def lanesDone (C S : ℕ → ℕ → FVec F S8x128 .f32) (v : Blocks F) : Blocks F :=
  laneLayer C S 6 (laneLayer C S 5 (laneLayer C S 4 (laneLayer C S 3 (laneLayer C S 2 (laneLayer C S 1 (laneLayer C S 0 v))))))

/-- All eleven layers. -/
def done (C S : ℕ → ℕ → FVec F S8x128 .f32) (v : Blocks F) : Blocks F :=
  blockLayer C S 10 (blockLayer C S 9 (blockLayer C S 8 (blockLayer C S 7 (lanesDone C S v))))

/-- What is stored: the two halves of a block, one above the other, in the narrow format. -/
def stored (v : Blocks F) (b : ℕ) : FVec F S16x128 .bf16 :=
  truncf .bf16 (concatenate S16x128 0 [⟨S8x128, v b false⟩, ⟨S8x128, v b true⟩] concatenates_S8x128_S8x128_S16x128_d0) bitsLt_bf16_f32

/-- Block `b` of layer `l` of a coefficient table, as loaded. -/
def coef (M : Memref sig .tc .vmem S11x8x2048 .f32) (X : BufTy.Contents (Elt F) M.view.ty) (l b : ℕ) : FVec F S8x128 .f32 :=
  shapeCast S8x128 (M.view.readAt (Elt F) (Rect.unit (s := S11x8x2048) ![l % 11, 0, 128 * (b % 16)] S1x8x128.size (by
    intro a
    match a with
    | ⟨0, _⟩ => show l % 11 + 1 ≤ 11; omega
    | ⟨1, _⟩ => show 0 + 8 ≤ 8; omega
    | ⟨2, _⟩ => show 128 * (b % 16) + 128 ≤ 2048; omega)).toLoadRect X) shapeCasts_S1x8x128_S8x128

/-- Block `b` of the smoothing factors, as loaded. -/
def smooth (M : Memref sig .tc .vmem S1x2048 .f32) (X : BufTy.Contents (Elt F) M.view.ty) (b : ℕ) : Vec F S1x128 .f32 :=
  M.view.readAt (Elt F) (Rect.unit (s := S1x2048) ![0, 128 * (b % 16)] S1x128.size (by
    intro a
    match a with
    | ⟨0, _⟩ => show 0 + 1 ≤ 1; omega
    | ⟨1, _⟩ => show 128 * (b % 16) + 128 ≤ 2048; omega)).toLoadRect X

/-- Block `b` of the rows of trip `k`, as loaded. -/
def rows (M : Memref sig .tc .vmem S256x2048 .bf16) (X : BufTy.Contents (Elt F) M.view.ty) (k : Fin k0_t2_loop.trips) : ℕ → Vec F S16x128 .bf16
  | 0 => M.view.readAt (Elt F) (Rect.unit (s := S256x2048) (k0_off22 k) S16x128.size (k0_off22_inb k)).toLoadRect X
  | 1 => M.view.readAt (Elt F) (Rect.unit (s := S256x2048) (k0_off23 k) S16x128.size (k0_off23_inb k)).toLoadRect X
  | 2 => M.view.readAt (Elt F) (Rect.unit (s := S256x2048) (k0_off24 k) S16x128.size (k0_off24_inb k)).toLoadRect X
  | 3 => M.view.readAt (Elt F) (Rect.unit (s := S256x2048) (k0_off25 k) S16x128.size (k0_off25_inb k)).toLoadRect X
  | 4 => M.view.readAt (Elt F) (Rect.unit (s := S256x2048) (k0_off26 k) S16x128.size (k0_off26_inb k)).toLoadRect X
  | 5 => M.view.readAt (Elt F) (Rect.unit (s := S256x2048) (k0_off27 k) S16x128.size (k0_off27_inb k)).toLoadRect X
  | 6 => M.view.readAt (Elt F) (Rect.unit (s := S256x2048) (k0_off28 k) S16x128.size (k0_off28_inb k)).toLoadRect X
  | 7 => M.view.readAt (Elt F) (Rect.unit (s := S256x2048) (k0_off29 k) S16x128.size (k0_off29_inb k)).toLoadRect X
  | 8 => M.view.readAt (Elt F) (Rect.unit (s := S256x2048) (k0_off30 k) S16x128.size (k0_off30_inb k)).toLoadRect X
  | 9 => M.view.readAt (Elt F) (Rect.unit (s := S256x2048) (k0_off31 k) S16x128.size (k0_off31_inb k)).toLoadRect X
  | 10 => M.view.readAt (Elt F) (Rect.unit (s := S256x2048) (k0_off32 k) S16x128.size (k0_off32_inb k)).toLoadRect X
  | 11 => M.view.readAt (Elt F) (Rect.unit (s := S256x2048) (k0_off33 k) S16x128.size (k0_off33_inb k)).toLoadRect X
  | 12 => M.view.readAt (Elt F) (Rect.unit (s := S256x2048) (k0_off34 k) S16x128.size (k0_off34_inb k)).toLoadRect X
  | 13 => M.view.readAt (Elt F) (Rect.unit (s := S256x2048) (k0_off35 k) S16x128.size (k0_off35_inb k)).toLoadRect X
  | 14 => M.view.readAt (Elt F) (Rect.unit (s := S256x2048) (k0_off36 k) S16x128.size (k0_off36_inb k)).toLoadRect X
  | _ => M.view.readAt (Elt F) (Rect.unit (s := S256x2048) (k0_off37 k) S16x128.size (k0_off37_inb k)).toLoadRect X

/-- One trip stores, for each of its sixteen blocks, the rows after the eleven layers. -/
theorem trip_pieces (𝒱 : Variants) (c : Dev nD) (bd : Option 𝒱.V) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (X_arg1 : BufTy.Contents (Elt F) arg1.view.ty) (X_arg2 : BufTy.Contents (Elt F) arg2.view.ty) (X_arg11 : BufTy.Contents (Elt F) arg11.view.ty) (X_arg12 : BufTy.Contents (Elt F) arg12.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg11 X_arg12 k)
      = [
        ⟨Rect.unit (s := S256x2048) (k0_off37 k) S16x128.size (k0_off37_inb k), stored (done (coef arg11 X_arg11) (coef arg12 X_arg12) (start (rows arg1 X_arg1 k) (smooth arg2 X_arg2))) 15⟩,
        ⟨Rect.unit (s := S256x2048) (k0_off36 k) S16x128.size (k0_off36_inb k), stored (done (coef arg11 X_arg11) (coef arg12 X_arg12) (start (rows arg1 X_arg1 k) (smooth arg2 X_arg2))) 14⟩,
        ⟨Rect.unit (s := S256x2048) (k0_off35 k) S16x128.size (k0_off35_inb k), stored (done (coef arg11 X_arg11) (coef arg12 X_arg12) (start (rows arg1 X_arg1 k) (smooth arg2 X_arg2))) 13⟩,
        ⟨Rect.unit (s := S256x2048) (k0_off34 k) S16x128.size (k0_off34_inb k), stored (done (coef arg11 X_arg11) (coef arg12 X_arg12) (start (rows arg1 X_arg1 k) (smooth arg2 X_arg2))) 12⟩,
        ⟨Rect.unit (s := S256x2048) (k0_off33 k) S16x128.size (k0_off33_inb k), stored (done (coef arg11 X_arg11) (coef arg12 X_arg12) (start (rows arg1 X_arg1 k) (smooth arg2 X_arg2))) 11⟩,
        ⟨Rect.unit (s := S256x2048) (k0_off32 k) S16x128.size (k0_off32_inb k), stored (done (coef arg11 X_arg11) (coef arg12 X_arg12) (start (rows arg1 X_arg1 k) (smooth arg2 X_arg2))) 10⟩,
        ⟨Rect.unit (s := S256x2048) (k0_off31 k) S16x128.size (k0_off31_inb k), stored (done (coef arg11 X_arg11) (coef arg12 X_arg12) (start (rows arg1 X_arg1 k) (smooth arg2 X_arg2))) 9⟩,
        ⟨Rect.unit (s := S256x2048) (k0_off30 k) S16x128.size (k0_off30_inb k), stored (done (coef arg11 X_arg11) (coef arg12 X_arg12) (start (rows arg1 X_arg1 k) (smooth arg2 X_arg2))) 8⟩,
        ⟨Rect.unit (s := S256x2048) (k0_off29 k) S16x128.size (k0_off29_inb k), stored (done (coef arg11 X_arg11) (coef arg12 X_arg12) (start (rows arg1 X_arg1 k) (smooth arg2 X_arg2))) 7⟩,
        ⟨Rect.unit (s := S256x2048) (k0_off28 k) S16x128.size (k0_off28_inb k), stored (done (coef arg11 X_arg11) (coef arg12 X_arg12) (start (rows arg1 X_arg1 k) (smooth arg2 X_arg2))) 6⟩,
        ⟨Rect.unit (s := S256x2048) (k0_off27 k) S16x128.size (k0_off27_inb k), stored (done (coef arg11 X_arg11) (coef arg12 X_arg12) (start (rows arg1 X_arg1 k) (smooth arg2 X_arg2))) 5⟩,
        ⟨Rect.unit (s := S256x2048) (k0_off26 k) S16x128.size (k0_off26_inb k), stored (done (coef arg11 X_arg11) (coef arg12 X_arg12) (start (rows arg1 X_arg1 k) (smooth arg2 X_arg2))) 4⟩,
        ⟨Rect.unit (s := S256x2048) (k0_off25 k) S16x128.size (k0_off25_inb k), stored (done (coef arg11 X_arg11) (coef arg12 X_arg12) (start (rows arg1 X_arg1 k) (smooth arg2 X_arg2))) 3⟩,
        ⟨Rect.unit (s := S256x2048) (k0_off24 k) S16x128.size (k0_off24_inb k), stored (done (coef arg11 X_arg11) (coef arg12 X_arg12) (start (rows arg1 X_arg1 k) (smooth arg2 X_arg2))) 2⟩,
        ⟨Rect.unit (s := S256x2048) (k0_off23 k) S16x128.size (k0_off23_inb k), stored (done (coef arg11 X_arg11) (coef arg12 X_arg12) (start (rows arg1 X_arg1 k) (smooth arg2 X_arg2))) 1⟩,
        ⟨Rect.unit (s := S256x2048) (k0_off22 k) S16x128.size (k0_off22_inb k), stored (done (coef arg11 X_arg11) (coef arg12 X_arg12) (start (rows arg1 X_arg1 k) (smooth arg2 X_arg2))) 0⟩] := by
  sl_kernel_rfl

end Cert.KernelIdeal.Unit

end
-- ==== Proof.Trip2Value.lean ====
/-
  What one trip of the rotation loop stores, number by number: the rows it read, after the eleven layers.
-/
module

public import proofs.«01_k».proof.Proof.Trip2
public import proofs.«01_k».proof.Proof.Spec

@[expose] public section

noncomputable section

namespace Cert.KernelIdeal.Unit

open Idealize.ShloMosaic Idealize.ShloMosaic.TcCoe Idealize.SL.Sem
open Cert.KernelIdeal Cert.KernelIdeal.Gen Cert.Spec

/-- The lane number, read. -/
theorem lanes_apply (s : Fin 8) (r : Fin 128) : lanes (ix2 s r) = BitVec.ofNat 32 r.val := by
  pointwise [lanes]

/-- The index of the partner lane is the lane number with one bit flipped. -/
theorem partnerIdx_toNat (l : ℕ) (hl : l < 7) (s : Fin 8) (r : Fin 128) :
    (partnerIdx l (ix2 s r)).toNat = r.val ^^^ 2 ^ l := by
  have h2 : 2 ^ l < 2 ^ 7 := Nat.pow_lt_pow_right (by decide) hl
  have hx : r.val ^^^ 2 ^ l < 2 ^ 7 := Nat.xor_lt_two_pow r.isLt h2
  have hp : (partner l (ix2 s r)).toNat = r.val ^^^ 2 ^ l := by
    show (lanes (ix2 s r) ^^^ BitVec.ofNat 32 (2 ^ l)).toNat = _
    rw [lanes_apply, BitVec.toNat_xor, BitVec.toNat_ofNat, BitVec.toNat_ofNat, Nat.mod_eq_of_lt (by omega : r.val < 2 ^ 32),
      Nat.mod_eq_of_lt (by omega : 2 ^ l < 2 ^ 32)]
  have e : partnerIdx l (ix2 s r) = partner l (ix2 s r) := by
    unfold partnerIdx
    rw [shapeCast_shapeCast]
    show (if (BitVec.ofBool ((partner l (ix2 s r)).slt 0#32)) = 1#1 then partner l (ix2 s r) + 128#32 else partner l (ix2 s r)) = _
    rw [if_neg]
    have : (partner l (ix2 s r)).slt 0#32 = false := by
      rw [BitVec.slt_eq_decide, decide_eq_false_iff_not, BitVec.toInt_eq_toNat_of_lt (by rw [hp]; omega)]
      simp
    rw [this]; decide
  rw [e, hp]

/-- A block of 128 lanes in two halves holds the numbers `V`. -/
def Holds (v : Blocks Ideal) (V : Bool → Fin 8 → ℕ → EReal) : Prop :=
  ∀ b < 16, ∀ h (s : Fin 8) (r : Fin 128), v b h (ix2 s r) = V h s (128 * b + r.val)

/-- A coefficient table holds the numbers `C`. -/
def Coefs (T : ℕ → ℕ → FVec Ideal S8x128 .f32) (C : ℕ → ℕ → EReal) : Prop :=
  ∀ l < 11, ∀ b < 16, ∀ (s : Fin 8) (r : Fin 128), T l b (ix2 s r) = C l (128 * b + r.val)

variable {Ct St : ℕ → ℕ → FVec Ideal S8x128 .f32} {C S : ℕ → ℕ → EReal}

/-- A layer within the blocks is a layer. -/
theorem laneLayer_holds (hC : Coefs Ct C) (hS : Coefs St S) (l : ℕ) (hl : l < 7) {v : Blocks Ideal} {V : Bool → Fin 8 → ℕ → EReal}
    (hv : Holds v V) : Holds (laneLayer Ct St l v) (fun h s => layer C S l (V h s)) := by
  intro b hb h s r
  have hx : r.val ^^^ 2 ^ l < 2 ^ 7 := Nat.xor_lt_two_pow r.isLt (Nat.pow_lt_pow_right (by decide) hl)
  have hg : dynamicGather 1 (v b h) (partnerIdx l) (ix2 s r) = V h s ((128 * b + r.val) ^^^ 2 ^ l) := by
    have e : dynamicGather 1 (v b h) (partnerIdx l) (ix2 s r) = v b h (ix2 s ⟨r.val ^^^ 2 ^ l, hx⟩) := by
      unfold dynamicGather
      congr 1
      funext a
      match a with
      | ⟨0, _⟩ => rfl
      | ⟨1, _⟩ =>
        apply Fin.ext
        show (partnerIdx l (ix2 s r)).toNat % 128 = r.val ^^^ 2 ^ l
        rw [partnerIdx_toNat l hl]; exact Nat.mod_eq_of_lt hx
    rw [e, hv b hb h s, xor_lane b r.val l r.isLt hl]
  show Ct l b (ix2 s r) * v b h (ix2 s r) + St l b (ix2 s r) * dynamicGather 1 (v b h) (partnerIdx l) (ix2 s r) = _
  rw [hg, hC l (by omega) b hb, hS l (by omega) b hb, hv b hb]
  rfl

/-- A layer between blocks is a layer. -/
theorem blockLayer_holds (hC : Coefs Ct C) (hS : Coefs St S) (l : ℕ) (hl : 7 ≤ l) (hl' : l < 11) {v : Blocks Ideal}
    {V : Bool → Fin 8 → ℕ → EReal} (hv : Holds v V) : Holds (blockLayer Ct St l v) (fun h s => layer C S l (V h s)) := by
  intro b hb h s r
  have hx : b ^^^ 2 ^ (l - 7) < 2 ^ 4 := Nat.xor_lt_two_pow hb (Nat.pow_lt_pow_right (by decide) (by omega))
  show Ct l b (ix2 s r) * v b h (ix2 s r) + St l b (ix2 s r) * v (b ^^^ 2 ^ (l - 7)) h (ix2 s r) = _
  rw [hC l (by omega) b hb, hS l (by omega) b hb, hv b hb, hv _ hx, ← xor_block b r.val l r.isLt hl]
  rfl

/-- All eleven layers. -/
theorem done_holds (hC : Coefs Ct C) (hS : Coefs St S) {v : Blocks Ideal} {V : Bool → Fin 8 → ℕ → EReal}
    (hv : Holds v V) : Holds (done Ct St v) (fun h s => layers C S 11 (V h s)) :=
  blockLayer_holds hC hS 10 (by decide) (by decide) <| blockLayer_holds hC hS 9 (by decide) (by decide) <|
  blockLayer_holds hC hS 8 (by decide) (by decide) <| blockLayer_holds hC hS 7 (by decide) (by decide) <|
  laneLayer_holds hC hS 6 (by decide) <| laneLayer_holds hC hS 5 (by decide) <| laneLayer_holds hC hS 4 (by decide) <|
  laneLayer_holds hC hS 3 (by decide) <| laneLayer_holds hC hS 2 (by decide) <| laneLayer_holds hC hS 1 (by decide) <|
  laneLayer_holds hC hS 0 (by decide) hv

/-- What is stored for block `b`, read at row `r` of the sixteen. -/
theorem stored_apply {v : Blocks Ideal} {V : Bool → Fin 8 → ℕ → EReal} (hv : Holds v V) (b : ℕ) (hb : b < 16)
    (r : Fin 16) (l : Fin 128) :
    stored v b (ix2 r l) = V (decide (8 ≤ r.val)) ⟨r.val % 8, Nat.mod_lt _ (by decide)⟩ (128 * b + l.val) := by
  unfold stored
  show concatenate S16x128 0 [⟨S8x128, v b false⟩, ⟨S8x128, v b true⟩] concatenates_S8x128_S8x128_S16x128_d0 (ix2 r l) = _
  by_cases h : 8 ≤ r.val
  · have e : concatenate S16x128 0 [⟨S8x128, v b false⟩, ⟨S8x128, v b true⟩] concatenates_S8x128_S8x128_S16x128_d0 (ix2 r l)
        = v b true (ix2 ⟨r.val % 8, Nat.mod_lt _ (by decide)⟩ l) := by
      rw [concatenate_pair_apply, dif_neg (by show ¬ r.val < 8; omega)]
      congr 1
      funext a
      match a with
      | ⟨0, _⟩ => exact Fin.ext (by show r.val - 8 = r.val % 8; omega)
      | ⟨1, _⟩ => rfl
    rw [e, hv b hb]; simp [h]
  · have e : concatenate S16x128 0 [⟨S8x128, v b false⟩, ⟨S8x128, v b true⟩] concatenates_S8x128_S8x128_S16x128_d0 (ix2 r l)
        = v b false (ix2 ⟨r.val % 8, Nat.mod_lt _ (by decide)⟩ l) := by
      rw [concatenate_pair_apply, dif_pos (by show r.val < 8; omega)]
      congr 1
      funext a
      match a with
      | ⟨0, _⟩ => exact Fin.ext (by show r.val = r.val % 8; omega)
      | ⟨1, _⟩ => rfl
    rw [e, hv b hb]; simp [h]

/-- The rows read, times the smoothing factors. -/
theorem start_holds (x : ℕ → Vec Ideal S16x128 .bf16) (sm : ℕ → Vec Ideal S1x128 .f32) (X : ℕ → ℕ → EReal) (Sm : ℕ → EReal)
    (hx : ∀ b < 16, ∀ (r : Fin 16) (l : Fin 128), x b (ix2 r l) = X r.val (128 * b + l.val))
    (hsm : ∀ b < 16, ∀ l : Fin 128, sm b (ix2 0 l) = Sm (128 * b + l.val)) :
    Holds (start x sm) (fun h s j => X ((if h then 8 else 0) + s.val) j * Sm j) := by
  intro b hb h s r
  have e2 : broadcastTo S8x128 (shapeCast S1x128 (sm b) shapeCasts_S1x128_S1x128) broadcasts_S1x128_S8x128 (ix2 s r) = sm b (ix2 0 r) := by
    pointwise
  cases h with
  | false =>
    show extractStridedSlice S8x128 ![0, 0] (extf (F := Ideal) .f32 (shapeCast S16x128 (x b) shapeCasts_S16x128_S16x128) bitsLt_bf16_f32) slices_S16x128_o0_0_S8x128 (ix2 s r)
      * broadcastTo S8x128 (shapeCast S1x128 (sm b) shapeCasts_S1x128_S1x128) broadcasts_S1x128_S8x128 (ix2 s r) = _
    have e1 : extractStridedSlice S8x128 ![0, 0] (extf (F := Ideal) .f32 (shapeCast S16x128 (x b) shapeCasts_S16x128_S16x128) bitsLt_bf16_f32) slices_S16x128_o0_0_S8x128 (ix2 s r)
        = x b (ix2 ⟨0 + s.val, by omega⟩ ⟨0 + r.val, by omega⟩) := by pointwise
    rw [e1, e2, hx b hb, hsm b hb]; simp
  | true =>
    show extractStridedSlice S8x128 ![8, 0] (extf (F := Ideal) .f32 (shapeCast S16x128 (x b) shapeCasts_S16x128_S16x128) bitsLt_bf16_f32) slices_S16x128_o8_0_S8x128 (ix2 s r)
      * broadcastTo S8x128 (shapeCast S1x128 (sm b) shapeCasts_S1x128_S1x128) broadcasts_S1x128_S8x128 (ix2 s r) = _
    have e1 : extractStridedSlice S8x128 ![8, 0] (extf (F := Ideal) .f32 (shapeCast S16x128 (x b) shapeCasts_S16x128_S16x128) bitsLt_bf16_f32) slices_S16x128_o8_0_S8x128 (ix2 s r)
        = x b (ix2 ⟨8 + s.val, by omega⟩ ⟨0 + r.val, by omega⟩) := by pointwise
    rw [e1, e2, hx b hb, hsm b hb]; simp

end Cert.KernelIdeal.Unit

end
-- ==== Proof.Rows.lean ====
/-
  What the rotation loop stores: a block of 256 rows, each row rotated.
-/
module

public import proofs.«01_k».proof.Proof.Trip2Value
public import proofs.«01_k».proof.Proof.Places

@[expose] public section

noncomputable section

namespace Cert.KernelIdeal.Unit

open Idealize.ShloMosaic Idealize.ShloMosaic.TcCoe Idealize.SL.Sem
open Cert.KernelIdeal Cert.KernelIdeal.Gen Cert.Spec Cert.Places

instance : Zero (Elt Ideal .bf16) := inferInstanceAs (Zero EReal)
instance : Zero (Elt Ideal .f32) := inferInstanceAs (Zero EReal)

/-- Row `r` of a block of rows, each number times the smoothing factor of its column. -/
def smoothed (x : Vec Ideal S256x2048 .bf16) (sm : Vec Ideal S1x2048 .f32) (r j : ℕ) : EReal :=
  (at2 (m := 256) (n := 2048) x r j : EReal) * (at2 (m := 1) (n := 2048) sm 0 j : EReal)

/-- A block of rows after the rotations. -/
def rotatedBlock (θ : ℕ → ℕ → EReal) (x : Vec Ideal S256x2048 .bf16) (sm : Vec Ideal S1x2048 .f32) : Vec Ideal S256x2048 .bf16 :=
  fun y => rot θ (smoothed x sm (y 0).val) (y 1).val

variable (arg1 : Memref sig .tc .vmem S256x2048 .bf16) (arg2 : Memref sig .tc .vmem S1x2048 .f32)
variable (arg11 arg12 : Memref sig .tc .vmem S11x8x2048 .f32)

/-- A block without its leading axis of one. -/
theorem drop_apply (v : FVec Ideal S1x8x128 .f32) (s : Fin 8) (r : Fin 128) :
    shapeCast S8x128 v shapeCasts_S1x8x128_S8x128 (ix2 s r) = v (ix3 0 s r) := by
  pointwise

/-- A block of a coefficient table, read. -/
theorem coef_holds (M : Memref sig .tc .vmem S11x8x2048 .f32) (X : BufTy.Contents (Elt Ideal) M.view.ty) (C : ℕ → ℕ → EReal)
    (hX : M.view.read (Elt Ideal) X = fun y => C (y 0).val (y 2).val) : Coefs (coef M X) C := by
  intro l hl b hb s r
  refine (drop_apply _ s r).trans ?_
  rw [View.readAt_eq_ld]
  show M.view.read (Elt Ideal) X _ = _
  rw [hX]
  show C (l % 11 + 1 * 0) (128 * (b % 16) + 1 * r.val) = _
  congr 1 <;> omega

/-- A block of the smoothing factors, read. -/
theorem smooth_holds (X : BufTy.Contents (Elt Ideal) arg2.view.ty) (sm : Vec Ideal S1x2048 .f32)
    (hX : arg2.view.read (Elt Ideal) X = sm) (b : ℕ) (hb : b < 16) (l : Fin 128) :
    smooth arg2 X b (ix2 0 l) = at2 (m := 1) (n := 2048) sm 0 (128 * b + l.val) := by
  refine (load (p := 1) (q := 128) arg2 X sm hX _ _ 0 (128 * (b % 16)) rfl (ix2 0 l)).trans ?_
  show at2 (m := 1) (n := 2048) sm (0 + 0) (128 * (b % 16) + l.val) = _
  congr 2
  omega

/-- A block of the rows of a trip, read. -/
theorem rows_holds (X : BufTy.Contents (Elt Ideal) arg1.view.ty) (x : Vec Ideal S256x2048 .bf16)
    (hX : arg1.view.read (Elt Ideal) X = x) (k : Fin k0_t2_loop.trips) (b : ℕ) (hb : b < 16) (r : Fin 16) (l : Fin 128) :
    rows arg1 X k b (ix2 r l) = at2 (m := 256) (n := 2048) x (16 * k.val + r.val) (128 * b + l.val) := by
  have go := fun off inb b h => load (p := 16) (q := 128) arg1 X x hX off inb (16 * k.val) b h (ix2 r l)
  match b, hb with
  | 0, _ => exact go _ _ _ (k0_off22_eq k)
  | 1, _ => exact go _ _ _ (k0_off23_eq k)
  | 2, _ => exact go _ _ _ (k0_off24_eq k)
  | 3, _ => exact go _ _ _ (k0_off25_eq k)
  | 4, _ => exact go _ _ _ (k0_off26_eq k)
  | 5, _ => exact go _ _ _ (k0_off27_eq k)
  | 6, _ => exact go _ _ _ (k0_off28_eq k)
  | 7, _ => exact go _ _ _ (k0_off29_eq k)
  | 8, _ => exact go _ _ _ (k0_off30_eq k)
  | 9, _ => exact go _ _ _ (k0_off31_eq k)
  | 10, _ => exact go _ _ _ (k0_off32_eq k)
  | 11, _ => exact go _ _ _ (k0_off33_eq k)
  | 12, _ => exact go _ _ _ (k0_off34_eq k)
  | 13, _ => exact go _ _ _ (k0_off35_eq k)
  | 14, _ => exact go _ _ _ (k0_off36_eq k)
  | 15, _ => exact go _ _ _ (k0_off37_eq k)
  | n + 16, h => exact absurd h (by omega)

section
variable {arg1 arg2 arg11 arg12}
variable {X1 : BufTy.Contents (Elt Ideal) arg1.view.ty} {X2 : BufTy.Contents (Elt Ideal) arg2.view.ty}
variable {X11 : BufTy.Contents (Elt Ideal) arg11.view.ty} {X12 : BufTy.Contents (Elt Ideal) arg12.view.ty}
variable {x : Vec Ideal S256x2048 .bf16} {sm : Vec Ideal S1x2048 .f32} {θ : ℕ → ℕ → EReal}

/-- What one trip stores for block `b` is that block of the rotated rows. -/
theorem stored_of (h1 : arg1.view.read (Elt Ideal) X1 = x) (h2 : arg2.view.read (Elt Ideal) X2 = sm)
    (h11 : arg11.view.read (Elt Ideal) X11 = fun y => co θ (y 0).val (y 2).val)
    (h12 : arg12.view.read (Elt Ideal) X12 = fun y => si θ (y 0).val (y 2).val) (k : Fin k0_t2_loop.trips)
    (b : ℕ) (hb : b < 16) (off : Fin 2 → ℕ) (inb) (ho : off = ![16 * k.val, 128 * b]) (z : S16x128.Idx) :
    stored (done (coef arg11 X11) (coef arg12 X12) (start (rows arg1 X1 k) (smooth arg2 X2))) b z
      = rotatedBlock θ x sm ((Rect.unit (s := S256x2048) off S16x128.size inb).emb z) := by
  have hd := done_holds (coef_holds arg11 X11 (co θ) h11) (coef_holds arg12 X12 (si θ) h12)
    (start_holds (rows arg1 X1 k) (smooth arg2 X2) (fun r j => at2 (m := 256) (n := 2048) x (16 * k.val + r) j)
      (fun j => at2 (m := 1) (n := 2048) sm 0 j)
      (fun b hb r l => rows_holds arg1 X1 x h1 k b hb r l) (fun b hb l => smooth_holds arg2 X2 sm h2 b hb l))
  have hz : z = ix2 (z 0) (z 1) := eq_ix2 z
  have hs := stored_apply hd b hb (z 0) (z 1)
  refine (congrArg (stored _ b) hz).trans (hs.trans ?_)
  unfold rotatedBlock
  have e0 : ((Rect.unit (s := S256x2048) off S16x128.size inb).emb z 0).val = 16 * k.val + (z 0).val :=
    unit_row (m := 256) (n := 2048) (p := 16) (q := 128) off inb _ _ ho z
  have e1 : ((Rect.unit (s := S256x2048) off S16x128.size inb).emb z 1).val = 128 * b + (z 1).val :=
    unit_col (m := 256) (n := 2048) (p := 16) (q := 128) off inb _ _ ho z
  rw [e0, e1]
  have hr : (if decide (8 ≤ (z 0).val) = true then 8 else 0) + (z 0).val % 8 = (z 0).val := by
    have : (z 0).val < 16 := (z 0).isLt
    by_cases h : 8 ≤ (z 0).val
    · rw [if_pos (decide_eq_true h)]; omega
    · rw [if_neg (by simpa using h)]; omega
  show layers (co θ) (si θ) 11 (fun j => at2 (m := 256) (n := 2048) x
    (16 * k.val + ((if decide (8 ≤ (z 0).val) = true then 8 else 0) + (z 0).val % 8)) j * at2 (m := 1) (n := 2048) sm 0 j) _ = _
  rw [hr]
  rfl

/-- Every store of the first `n` trips puts down rotated rows. -/
theorem pieces_of (h1 : arg1.view.read (Elt Ideal) X1 = x) (h2 : arg2.view.read (Elt Ideal) X2 = sm)
    (h11 : arg11.view.read (Elt Ideal) X11 = fun y => co θ (y 0).val (y 2).val)
    (h12 : arg12.view.read (Elt Ideal) X12 = fun y => si θ (y 0).val (y 2).val)
    (𝒱 : Variants) (c : Dev nD) (bd : Option 𝒱.V) (i : grid0.Coords) (harg1 : arg1.IsWhole) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (harg11 : arg11.IsWhole) (harg12 : arg12.IsWhole) :
    ∀ n ≤ k0_t2_loop.trips, ∀ p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X11 X12 n,
      ∀ z, p.2 z = rotatedBlock θ x sm (p.1.emb z) := by
  intro n
  induction n with
  | zero => intro _ p hp; exact absurd hp (List.not_mem_nil)
  | succ n ih =>
    intro hn p hp
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 X1 X2 X11 X12 ⟨n, hn⟩
    rw [e, trip_pieces] at hp
    rcases List.mem_append.mp hp with hp | hp
    · have go := stored_of (k := ⟨n, hn⟩) h1 h2 h11 h12
      refine all_of (P := fun q => ∀ z, q.2 z = rotatedBlock θ x sm (q.1.emb z)) ?_ hp
      exact
        List.forall_mem_cons.mpr ⟨go 15 (by decide) _ (k0_off37_inb ⟨n, hn⟩) (k0_off37_eq ⟨n, hn⟩),
        List.forall_mem_cons.mpr ⟨go 14 (by decide) _ (k0_off36_inb ⟨n, hn⟩) (k0_off36_eq ⟨n, hn⟩),
        List.forall_mem_cons.mpr ⟨go 13 (by decide) _ (k0_off35_inb ⟨n, hn⟩) (k0_off35_eq ⟨n, hn⟩),
        List.forall_mem_cons.mpr ⟨go 12 (by decide) _ (k0_off34_inb ⟨n, hn⟩) (k0_off34_eq ⟨n, hn⟩),
        List.forall_mem_cons.mpr ⟨go 11 (by decide) _ (k0_off33_inb ⟨n, hn⟩) (k0_off33_eq ⟨n, hn⟩),
        List.forall_mem_cons.mpr ⟨go 10 (by decide) _ (k0_off32_inb ⟨n, hn⟩) (k0_off32_eq ⟨n, hn⟩),
        List.forall_mem_cons.mpr ⟨go 9 (by decide) _ (k0_off31_inb ⟨n, hn⟩) (k0_off31_eq ⟨n, hn⟩),
        List.forall_mem_cons.mpr ⟨go 8 (by decide) _ (k0_off30_inb ⟨n, hn⟩) (k0_off30_eq ⟨n, hn⟩),
        List.forall_mem_cons.mpr ⟨go 7 (by decide) _ (k0_off29_inb ⟨n, hn⟩) (k0_off29_eq ⟨n, hn⟩),
        List.forall_mem_cons.mpr ⟨go 6 (by decide) _ (k0_off28_inb ⟨n, hn⟩) (k0_off28_eq ⟨n, hn⟩),
        List.forall_mem_cons.mpr ⟨go 5 (by decide) _ (k0_off27_inb ⟨n, hn⟩) (k0_off27_eq ⟨n, hn⟩),
        List.forall_mem_cons.mpr ⟨go 4 (by decide) _ (k0_off26_inb ⟨n, hn⟩) (k0_off26_eq ⟨n, hn⟩),
        List.forall_mem_cons.mpr ⟨go 3 (by decide) _ (k0_off25_inb ⟨n, hn⟩) (k0_off25_eq ⟨n, hn⟩),
        List.forall_mem_cons.mpr ⟨go 2 (by decide) _ (k0_off24_inb ⟨n, hn⟩) (k0_off24_eq ⟨n, hn⟩),
        List.forall_mem_cons.mpr ⟨go 1 (by decide) _ (k0_off23_inb ⟨n, hn⟩) (k0_off23_eq ⟨n, hn⟩),
        List.forall_mem_cons.mpr ⟨go 0 (by decide) _ (k0_off22_inb ⟨n, hn⟩) (k0_off22_eq ⟨n, hn⟩), fun _ h => absurd h List.not_mem_nil⟩⟩⟩⟩⟩⟩⟩⟩⟩⟩⟩⟩⟩⟩⟩⟩
    · exact ih (by omega) p hp

end

end Cert.KernelIdeal.Unit

end
-- ==== Proof.Trip3.lean ====
/-
  One trip of the product loop: the rotated rows against 1024 rows of the weight matrix, plus the bias.
-/
module

public import proofs.«01_k».proof.Proof.Gen.KernelIdeal.Loops
public import Idealize.ShloMosaic.Lib.Tactic

@[expose] public section

noncomputable section

namespace Cert.KernelIdeal.Mm

open Idealize.ShloMosaic Idealize.ShloMosaic.TcCoe Idealize.ShloMosaic.Tactic Idealize.SL.Sem
open Cert.KernelIdeal Cert.KernelIdeal.Gen

variable {F : FTy → Type} [FloatOps F]

/-- One trip stores one block of 1024 columns. -/
theorem trip_pieces (𝒱 : Variants) (c : Dev nD) (bd : Option 𝒱.V) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (X_arg7 : BufTy.Contents (Elt F) arg7.view.ty) (X_arg9 : BufTy.Contents (Elt F) arg9.view.ty) (X_arg10 : BufTy.Contents (Elt F) arg10.view.ty) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 X_arg7 X_arg9 X_arg10 k)
      = [⟨Rect.unit (s := S256x8192) (k0_off40 k) S256x1024.size (k0_off40_inb k),
          truncf .bf16 (addf (matmul dot_S256x2048_S1024x2048_S256x1024_1_1_0_0_n_n none
            (shapeCast S256x2048 (arg9.view.readAt (Elt F) (Rect.unit (s := S256x2048) ![0, 0] S256x2048.size (by decide)).toLoadRect X_arg9) shapeCasts_S256x2048_S256x2048)
            (arg10.view.readAt (Elt F) (Rect.unit (s := S8192x2048) (k0_off38 k) S1024x2048.size (k0_off38_inb k)).toLoadRect X_arg10)
            (constant S256x1024 .f32 0#32))
            (broadcastTo S256x1024 (shapeCast S1x1024 (arg7.view.readAt (Elt F) (Rect.unit (s := S1x8192) (k0_off39 k) S1x1024.size (k0_off39_inb k)).toLoadRect X_arg7) shapeCasts_S1x1024_S1x1024) broadcasts_S1x1024_S256x1024)) bitsLt_bf16_f32⟩] := by
  sl_kernel_rfl

end Cert.KernelIdeal.Mm

end
-- ==== Proof.Trip3Value.lean ====
/-
  What one trip of the product loop stores, number by number: a row of rotated numbers against a row of weights, plus
  the bias.
-/
module

public import proofs.«01_k».proof.Proof.Trip3
public import proofs.«01_k».proof.Proof.Spec
public import Idealize.ShloMosaic.Lib.Pipeline.Value

@[expose] public section

noncomputable section

namespace Cert.KernelIdeal.Mm

open Idealize.ShloMosaic Idealize.ShloMosaic.TcCoe Idealize.SL.Sem
open Cert.KernelIdeal Cert.KernelIdeal.Gen

/-- The block of one trip from the three vectors it loads. -/
def block {F : FTy → Type} [FloatOps F] (x : Vec F S256x2048 .bf16) (w : Vec F S1024x2048 .bf16) (b : Vec F S1x1024 .f32) : FVec F S256x1024 .bf16 :=
  truncf .bf16 (addf (matmul dot_S256x2048_S1024x2048_S256x1024_1_1_0_0_n_n none
    (shapeCast S256x2048 x shapeCasts_S256x2048_S256x2048) w (constant S256x1024 .f32 0#32))
    (broadcastTo S256x1024 (shapeCast S1x1024 b shapeCasts_S1x1024_S1x1024) broadcasts_S1x1024_S256x1024)) bitsLt_bf16_f32

/-- A block's number: a sum of 2048 products, plus the bias. -/
theorem block_apply (x : Vec Ideal S256x2048 .bf16) (w : Vec Ideal S1024x2048 .bf16) (b : Vec Ideal S1x1024 .f32)
    (r : Fin 256) (n : Fin 1024) :
    block x w b (ix2 r n) = (∑ k : Fin 2048, x (ix2 r k) * w (ix2 n k) : EReal) + b (ix2 0 n) := by
  unfold block
  pointwise

end Cert.KernelIdeal.Mm

end
-- ==== Proof.Product.lean ====
/-
  What the product loop stores: the rotated rows of a block against all weights, plus the bias.
-/
module

public import proofs.«01_k».proof.Proof.Trip3Value
public import proofs.«01_k».proof.Proof.Places

@[expose] public section

noncomputable section

namespace Cert.KernelIdeal.Mm

open Idealize.ShloMosaic Idealize.ShloMosaic.TcCoe Idealize.SL.Sem
open Cert.KernelIdeal Cert.KernelIdeal.Gen Cert.Spec Cert.Places

instance : Zero (Elt Ideal .bf16) := inferInstanceAs (Zero EReal)
instance : Zero (Elt Ideal .f32) := inferInstanceAs (Zero EReal)

/-- A block of rows times the weights, plus the bias. -/
def productBlock (x : Vec Ideal S256x2048 .bf16) (w : Vec Ideal S8192x2048 .bf16) (b : Vec Ideal S1x8192 .f32) : Vec Ideal S256x8192 .bf16 :=
  fun y => (∑ k : Fin 2048, x (ix2 (y 0) k) * w (ix2 (y 1) k) : EReal) + b (ix2 0 (y 1))

variable {arg7 : Memref sig .tc .vmem S1x8192 .f32} {arg9 : Memref sig .tc .vmem S256x2048 .bf16} {arg10 : Memref sig .tc .vmem S8192x2048 .bf16}
variable {X7 : BufTy.Contents (Elt Ideal) arg7.view.ty} {X9 : BufTy.Contents (Elt Ideal) arg9.view.ty} {X10 : BufTy.Contents (Elt Ideal) arg10.view.ty}
variable {x : Vec Ideal S256x2048 .bf16} {w : Vec Ideal S8192x2048 .bf16} {bi : Vec Ideal S1x8192 .f32}

/-- What one trip stores is its block of columns of the product. -/
theorem block_of (h7 : arg7.view.read (Elt Ideal) X7 = bi) (h9 : arg9.view.read (Elt Ideal) X9 = x) (h10 : arg10.view.read (Elt Ideal) X10 = w)
    (k : Fin k0_t3_loop.trips) (z : S256x1024.Idx) :
    block (arg9.view.readAt (Elt Ideal) (Rect.unit (s := S256x2048) ![0, 0] S256x2048.size (by decide)).toLoadRect X9)
        (arg10.view.readAt (Elt Ideal) (Rect.unit (s := S8192x2048) (k0_off38 k) S1024x2048.size (k0_off38_inb k)).toLoadRect X10)
        (arg7.view.readAt (Elt Ideal) (Rect.unit (s := S1x8192) (k0_off39 k) S1x1024.size (k0_off39_inb k)).toLoadRect X7) z
      = productBlock x w bi ((Rect.unit (s := S256x8192) (k0_off40 k) S256x1024.size (k0_off40_inb k)).emb z) := by
  have hz : z = ix2 (z 0) (z 1) := eq_ix2 z
  refine (congrArg (block _ _ _) hz).trans ((block_apply _ _ _ (z 0) (z 1)).trans ?_)
  have e0 : ((Rect.unit (s := S256x8192) (k0_off40 k) S256x1024.size (k0_off40_inb k)).emb z 0).val = 0 + (z 0).val :=
    unit_row (m := 256) (n := 8192) (p := 256) (q := 1024) _ _ _ _ (k0_off40_eq k) z
  have e1 : ((Rect.unit (s := S256x8192) (k0_off40 k) S256x1024.size (k0_off40_inb k)).emb z 1).val = 1024 * k.val + (z 1).val :=
    unit_col (m := 256) (n := 8192) (p := 256) (q := 1024) _ _ _ _ (k0_off40_eq k) z
  have hx : ∀ j : Fin 2048, arg9.view.readAt (Elt Ideal) (Rect.unit (s := S256x2048) ![0, 0] S256x2048.size (by decide)).toLoadRect X9 (ix2 (z 0) j)
      = x (ix2 ((Rect.unit (s := S256x8192) (k0_off40 k) S256x1024.size (k0_off40_inb k)).emb z 0) j) := fun j => by
    refine (load (p := 256) (q := 2048) arg9 X9 x h9 _ _ 0 0 rfl (ix2 (z 0) j)).trans ?_
    refine Eq.trans ?_ (at2_eq (m := 256) (n := 2048) x _).symm
    show at2 (m := 256) (n := 2048) x (0 + (z 0).val) (0 + j.val) = at2 (m := 256) (n := 2048) x _ j.val
    rw [← e0, Nat.zero_add]
    rfl
  have hw : ∀ j : Fin 2048, arg10.view.readAt (Elt Ideal) (Rect.unit (s := S8192x2048) (k0_off38 k) S1024x2048.size (k0_off38_inb k)).toLoadRect X10 (ix2 (z 1) j)
      = w (ix2 ((Rect.unit (s := S256x8192) (k0_off40 k) S256x1024.size (k0_off40_inb k)).emb z 1) j) := fun j => by
    refine (load (p := 1024) (q := 2048) arg10 X10 w h10 _ _ _ _ (k0_off38_eq k) (ix2 (z 1) j)).trans ?_
    refine Eq.trans ?_ (at2_eq (m := 8192) (n := 2048) w _).symm
    show at2 (m := 8192) (n := 2048) w (1024 * k.val + (z 1).val) (0 + j.val) = at2 (m := 8192) (n := 2048) w _ j.val
    rw [← e1, Nat.zero_add]
    rfl
  have hb : arg7.view.readAt (Elt Ideal) (Rect.unit (s := S1x8192) (k0_off39 k) S1x1024.size (k0_off39_inb k)).toLoadRect X7 (ix2 0 (z 1))
      = bi (ix2 0 ((Rect.unit (s := S256x8192) (k0_off40 k) S256x1024.size (k0_off40_inb k)).emb z 1)) := by
    refine (load (p := 1) (q := 1024) arg7 X7 bi h7 _ _ _ _ (k0_off39_eq k) (ix2 0 (z 1))).trans ?_
    refine Eq.trans ?_ (at2_eq (m := 1) (n := 8192) bi _).symm
    show at2 (m := 1) (n := 8192) bi (0 + 0) (1024 * k.val + (z 1).val) = at2 (m := 1) (n := 8192) bi 0 _
    rw [← e1]
    rfl
  rw [hb]
  unfold productBlock
  congr 1
  exact Finset.sum_congr rfl fun j _ => by rw [hx, hw]

/-- Every store of the first `n` trips puts down its part of the product. -/
theorem pieces_of (h7 : arg7.view.read (Elt Ideal) X7 = bi) (h9 : arg9.view.read (Elt Ideal) X9 = x) (h10 : arg10.view.read (Elt Ideal) X10 = w)
    (𝒱 : Variants) (c : Dev nD) (bd : Option 𝒱.V) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (harg7 : arg7.IsWhole) (arg8 : Memref sig .tc .vmem S256x8192 .bf16) (harg8 : arg8.IsWhole) (harg9 : arg9.IsWhole) (harg10 : arg10.IsWhole) (arg11 : Memref sig .tc .vmem S11x8x2048 .f32) (harg11 : arg11.IsWhole) (arg12 : Memref sig .tc .vmem S11x8x2048 .f32) (harg12 : arg12.IsWhole) :
    ∀ n ≤ k0_t3_loop.trips, ∀ p ∈ pb_k0_t3 (F := Ideal) 𝒱 c bd i arg1 harg1 arg2 harg2 arg3 harg3 arg4 harg4 arg5 harg5 arg6 harg6 arg7 harg7 arg8 harg8 arg9 harg9 arg10 harg10 arg11 harg11 arg12 harg12 X7 X9 X10 n,
      ∀ z, p.2 z = productBlock x w bi (p.1.emb z) := by
  intro n
  induction n with
  | zero => intro _ p hp; exact absurd hp (List.not_mem_nil)
  | succ n ih =>
    intro hn p hp
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 X7 X9 X10 ⟨n, hn⟩
    rw [e, trip_pieces] at hp
    rcases List.mem_append.mp hp with hp | hp
    · refine all_of (P := fun q => ∀ z, q.2 z = productBlock x w bi (q.1.emb z)) ?_ hp
      exact List.forall_mem_cons.mpr ⟨block_of h7 h9 h10 ⟨n, hn⟩, fun _ h => absurd h List.not_mem_nil⟩
    · exact ih (by omega) p hp

end Cert.KernelIdeal.Mm

end
-- ==== Proof.PointA.lean ====
/-
  What the first grid point leaves in the two outputs, in the weight table and in the coefficient tables.
-/
module

public import proofs.«01_k».proof.Proof.Frame
public import proofs.«01_k».proof.Proof.PrepValue
public import proofs.«01_k».proof.Proof.Weights
public import proofs.«01_k».proof.Proof.Rows
public import proofs.«01_k».proof.Proof.Product

@[expose] public section

set_option maxRecDepth 16384

noncomputable section

namespace Cert.KernelIdeal.Point

open Idealize.ShloMosaic Idealize.ShloMosaic.TcCoe Idealize.ShloMosaic.Tactic Idealize.SL.Sem
open Cert.KernelIdeal Cert.KernelIdeal.Gen Cert.Spec Cert.KernelIdeal.Prep

/-- The table of cosines of a table of angles. -/
def cosTable (x2 : Vec Ideal S11x1024 .f32) : Vec Ideal S11x8x2048 .f32 := fun y => (co (angles x2) (y 0).val (y 2).val : EReal)

/-- The table of signed sines. -/
def sinTable (x2 : Vec Ideal S11x1024 .f32) : Vec Ideal S11x8x2048 .f32 := fun y => (si (angles x2) (y 0).val (y 2).val : EReal)

variable (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : cond0_0 i) (x0 : Vec Ideal S256x2048 .bf16) (x1 : Vec Ideal S1x2048 .f32) (x2 : Vec Ideal S11x1024 .f32) (x3 : Vec Ideal S8192x512 .i8) (x4 : Vec Ideal S8192x32 .bf16) (x5 : Vec Ideal S8192x32 .bf16) (x6 : Vec Ideal S1x8192 .f32)

/-- The stores into the table of cosines, at the first point. -/
theorem run_cos : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 = cosPieces arg3 (harg3.unread x2) 176 := by
  sl_kernel_rfl

/-- The stores into the table of signed sines. -/
theorem run_sin : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 = sinPieces arg3 (harg3.unread x2) 176 := by
  sl_kernel_rfl

/-- The stores into the weight table. -/
theorem run_weights : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1
    = pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg4.unread x3) (harg5.unread x4) (harg6.unread x5) k0_t1_loop.trips := by
  sl_kernel_rfl

/-- The stores into the rotated rows. -/
theorem run_rows : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1
    = pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (arg11.view.writes (Elt Ideal) arg11.view.junk (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)
      (arg12.view.writes (Elt Ideal) arg12.view.junk (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1) k0_t2_loop.trips := by
  sl_kernel_rfl

/-- The stores into the product. -/
theorem run_product : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).1
    = pb_k0_t3 (F := Ideal) Variants.none c none i arg1 harg1 arg2 harg2 arg3 harg3 arg4 harg4 arg5 harg5 arg6 harg6 arg7 harg7 arg8 harg8 arg9 harg9 arg10 harg10 arg11 harg11 arg12 harg12 (harg7.unread x6) (harg9.unread (View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1))
      (harg10.unread (View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)) k0_t3_loop.trips := by
  sl_kernel_rfl

/-- The stores into the table of cosines leave the cosines. -/
theorem canon_cos : View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 = cosTable x2 := funext fun y => by
  refine View.canon_apply_of_pieces (cosTable x2) _ ?_ y (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  rw [run_cos]
  exact cosPieces_of arg3 (harg3.unread x2) x2 (harg3.read_unread x2) 176 (le_refl _)

/-- The stores into the table of signed sines leave the signed sines. -/
theorem canon_sin : View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 = sinTable x2 := funext fun y => by
  refine View.canon_apply_of_pieces (sinTable x2) _ ?_ y (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  rw [run_sin]
  exact sinPieces_of arg3 (harg3.unread x2) x2 (harg3.read_unread x2) 176 (le_refl _)

/-- The stores into the weight table leave the weights. -/
theorem canon_weights : View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 = Deq.table x3 x4 x5 := funext fun y => by
  refine View.canon_apply_of_pieces (Deq.table x3 x4 x5) _ ?_ y (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  rw [run_weights]
  exact Deq.pieces_of (harg4.read_unread x3) (harg5.read_unread x4) (harg6.read_unread x5) _ _ _ _ _ _ _ _ _ _ _ _ _ _ _ _ _ _ _ _ _ _ _ _ _ _ _ (le_refl _)

/-- The stores into the rotated rows leave the rotated rows. -/
theorem canon_rows : View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 = Unit.rotatedBlock (angles x2) x0 x1 := funext fun y => by
  refine View.canon_apply_of_pieces (Unit.rotatedBlock (angles x2) x0 x1) _ ?_ y (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  rw [run_rows]
  exact Unit.pieces_of (harg1.read_unread x0) (harg2.read_unread x1)
    ((View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_cos c i arg1 harg1 arg2 harg2 arg3 harg3 arg4 harg4 arg5 harg5 arg6 harg6 arg7 harg7 arg8 harg8 arg9 harg9 arg10 harg10 arg11 harg11 arg12 harg12 hc0 x0 x1 x2 x3 x4 x5 x6))
    ((View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_sin c i arg1 harg1 arg2 harg2 arg3 harg3 arg4 harg4 arg5 harg5 arg6 harg6 arg7 harg7 arg8 harg8 arg9 harg9 arg10 harg10 arg11 harg11 arg12 harg12 hc0 x0 x1 x2 x3 x4 x5 x6))
    _ _ _ _ _ _ _ _ _ _ _ _ _ _ _ _ _ _ _ _ _ _ _ _ _ (le_refl _)

/-- The stores into the product leave the product. -/
theorem canon_product : View.canon (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).1
    = Mm.productBlock (Unit.rotatedBlock (angles x2) x0 x1) (Deq.table x3 x4 x5) x6 := funext fun y => by
  refine View.canon_apply_of_pieces (Mm.productBlock (Unit.rotatedBlock (angles x2) x0 x1) (Deq.table x3 x4 x5) x6) _ ?_ y (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  rw [run_product]
  exact Mm.pieces_of (harg7.read_unread x6)
    ((harg9.read_unread _).trans (canon_rows c i arg1 harg1 arg2 harg2 arg3 harg3 arg4 harg4 arg5 harg5 arg6 harg6 arg7 harg7 arg8 harg8 arg9 harg9 arg10 harg10 arg11 harg11 arg12 harg12 hc0 x0 x1 x2 x3 x4 x5 x6))
    ((harg10.read_unread _).trans (canon_weights c i arg1 harg1 arg2 harg2 arg3 harg3 arg4 harg4 arg5 harg5 arg6 harg6 arg7 harg7 arg8 harg8 arg9 harg9 arg10 harg10 arg11 harg11 arg12 harg12 hc0 x0 x1 x2 x3 x4 x5 x6))
    _ _ _ _ _ _ _ _ _ _ _ _ _ _ _ _ _ _ _ _ _ _ _ _ _ _ (le_refl _)

/-- The product the first point leaves. -/
theorem out_product : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Mm.productBlock (Unit.rotatedBlock (angles x2) x0 x1) (Deq.table x3 x4 x5) x6 :=
  (View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_product c i arg1 harg1 arg2 harg2 arg3 harg3 arg4 harg4 arg5 harg5 arg6 harg6 arg7 harg7 arg8 harg8 arg9 harg9 arg10 harg10 arg11 harg11 arg12 harg12 hc0 x0 x1 x2 x3 x4 x5 x6)

/-- The rotated rows the first point leaves. -/
theorem out_rows : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Unit.rotatedBlock (angles x2) x0 x1 :=
  (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_rows c i arg1 harg1 arg2 harg2 arg3 harg3 arg4 harg4 arg5 harg5 arg6 harg6 arg7 harg7 arg8 harg8 arg9 harg9 arg10 harg10 arg11 harg11 arg12 harg12 hc0 x0 x1 x2 x3 x4 x5 x6)

/-- The weight table the first point leaves. -/
theorem out_weights : sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Deq.table x3 x4 x5 :=
  (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_weights c i arg1 harg1 arg2 harg2 arg3 harg3 arg4 harg4 arg5 harg5 arg6 harg6 arg7 harg7 arg8 harg8 arg9 harg9 arg10 harg10 arg11 harg11 arg12 harg12 hc0 x0 x1 x2 x3 x4 x5 x6)

/-- The table of cosines the first point leaves. -/
theorem out_cos : sout0_A_1 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = cosTable x2 :=
  (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_cos c i arg1 harg1 arg2 harg2 arg3 harg3 arg4 harg4 arg5 harg5 arg6 harg6 arg7 harg7 arg8 harg8 arg9 harg9 arg10 harg10 arg11 harg11 arg12 harg12 hc0 x0 x1 x2 x3 x4 x5 x6)

/-- The table of signed sines the first point leaves. -/
theorem out_sin : sout0_A_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = sinTable x2 :=
  (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6)).trans (canon_sin c i arg1 harg1 arg2 harg2 arg3 harg3 arg4 harg4 arg5 harg5 arg6 harg6 arg7 harg7 arg8 harg8 arg9 harg9 arg10 harg10 arg11 harg11 arg12 harg12 hc0 x0 x1 x2 x3 x4 x5 x6)

end Cert.KernelIdeal.Point

end
-- ==== Proof.PointB.lean ====
/-
  What a later grid point leaves in the two outputs, from the tables it finds.
-/
module

public import proofs.«01_k».proof.Proof.PointA

@[expose] public section

set_option maxRecDepth 16384

noncomputable section

namespace Cert.KernelIdeal.Point

open Idealize.ShloMosaic Idealize.ShloMosaic.TcCoe Idealize.ShloMosaic.Tactic Idealize.SL.Sem
open Cert.KernelIdeal Cert.KernelIdeal.Gen Cert.Spec Cert.KernelIdeal.Prep

variable (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S11x1024 .f32) (harg3 : arg3.IsWhole) (arg4 : Memref sig .tc .vmem S8192x512 .i8) (harg4 : arg4.IsWhole) (arg5 : Memref sig .tc .vmem S8192x32 .bf16) (harg5 : arg5.IsWhole) (arg6 : Memref sig .tc .vmem S8192x32 .bf16) (harg6 : arg6.IsWhole) (arg7 : Memref sig .tc .vmem S1x8192 .f32) (harg7 : arg7.IsWhole) (arg8 : Memref sig .tc .vmem S256x8192 .bf16) (harg8 : arg8.IsWhole) (arg9 : Memref sig .tc .vmem S256x2048 .bf16) (harg9 : arg9.IsWhole) (arg10 : Memref sig .tc .vmem S8192x2048 .bf16) (harg10 : arg10.IsWhole) (arg11 : Memref sig .tc .vmem S11x8x2048 .f32) (harg11 : arg11.IsWhole) (arg12 : Memref sig .tc .vmem S11x8x2048 .f32) (harg12 : arg12.IsWhole) (hc0 : ¬cond0_0 i) (x0 : Vec Ideal S256x2048 .bf16) (x1 : Vec Ideal S1x2048 .f32) (x2 : Vec Ideal S11x1024 .f32) (x3 : Vec Ideal S8192x512 .i8) (x4 : Vec Ideal S8192x32 .bf16) (x5 : Vec Ideal S8192x32 .bf16) (x6 : Vec Ideal S1x8192 .f32)
variable (xs0 : Vec Ideal S8192x2048 .bf16) (xs : Vec Ideal S11x1024 .f32)

/-- The stores into the rotated rows, at a later point. -/
theorem later_rows : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs)).2.1
    = pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg11.unread (cosTable xs)) (harg12.unread (sinTable xs)) k0_t2_loop.trips := by
  sl_kernel_rfl

/-- The stores into the product. -/
theorem later_product : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs)).1
    = pb_k0_t3 (F := Ideal) Variants.none c none i arg1 harg1 arg2 harg2 arg3 harg3 arg4 harg4 arg5 harg5 arg6 harg6 arg7 harg7 arg8 harg8 arg9 harg9 arg10 harg10 arg11 harg11 arg12 harg12 (harg7.unread x6) (harg9.unread (View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs)).2.1))
      (harg10.unread xs0) k0_t3_loop.trips := by
  sl_kernel_rfl

/-- The stores into the rotated rows leave the rotated rows. -/
theorem later_canon_rows : View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs)).2.1 = Unit.rotatedBlock (angles xs) x0 x1 := funext fun y => by
  refine View.canon_apply_of_pieces (Unit.rotatedBlock (angles xs) x0 x1) _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs) y)
  rw [later_rows]
  exact Unit.pieces_of (harg1.read_unread x0) (harg2.read_unread x1) (harg11.read_unread (cosTable xs)) (harg12.read_unread (sinTable xs))
    _ _ _ _ _ _ _ _ _ _ _ _ _ _ _ _ _ _ _ _ _ _ _ _ _ (le_refl _)

/-- The stores into the product leave the product. -/
theorem later_canon_product : View.canon (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs)).1
    = Mm.productBlock (Unit.rotatedBlock (angles xs) x0 x1) xs0 x6 := funext fun y => by
  refine View.canon_apply_of_pieces (Mm.productBlock (Unit.rotatedBlock (angles xs) x0 x1) xs0 x6) _ ?_ y (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs) y)
  rw [later_product]
  exact Mm.pieces_of (harg7.read_unread x6)
    ((harg9.read_unread _).trans (later_canon_rows c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs)) (harg10.read_unread xs0)
    _ _ _ _ _ _ _ _ _ _ _ _ _ _ _ _ _ _ _ _ _ _ _ _ _ _ (le_refl _)

/-- The product a later point leaves. -/
theorem later_out_product : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs) = Mm.productBlock (Unit.rotatedBlock (angles xs) x0 x1) xs0 x6 :=
  (View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs))).trans (later_canon_product c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs)

/-- The rotated rows a later point leaves. -/
theorem later_out_rows : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs) = Unit.rotatedBlock (angles xs) x0 x1 :=
  (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (cosTable xs) (sinTable xs))).trans (later_canon_rows c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs)

end Cert.KernelIdeal.Point

end
-- ==== Proof.Inputs.lean ====
/-
  What the kernel's blocks hold at a grid point, in terms of the arrays the program was launched with.
-/
module

public import proofs.«01_k».proof.Proof.Gen.KernelIdeal.Frame.Runs
public import proofs.«01_k».proof.Proof.Meaning
public import Idealize.ShloMosaic.Lib.Claim
public import Idealize.ShloMosaic.Lib.Pipeline.ValueKit

@[expose] public section

noncomputable section

namespace Cert.KernelIdeal.Inputs

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The input rows, flattened to one long list of rows. -/
def rows : FVec Ideal S15360x2048 .bf16 := shapeCast S15360x2048 (m ((c : Thread nD τ).loc main_arg0) : FVec Ideal S24x640x2048 .bf16) shapeCasts_S24x640x2048_S15360x2048

/-- The smoothing factors. -/
def smooth : FVec Ideal S2048 .f32 := m ((c : Thread nD τ).loc main_arg1)

/-- The angles. -/
def theta : FVec Ideal S11x1024 .f32 := m ((c : Thread nD τ).loc main_arg2)

/-- The packed codes. -/
def codes : IVec S8192x512 8 := m ((c : Thread nD τ).loc main_arg3)

/-- The scales. -/
def scale : FVec Ideal S8192x32 .bf16 := m ((c : Thread nD τ).loc main_arg4)

/-- The zero points. -/
def zero : FVec Ideal S8192x32 .bf16 := m ((c : Thread nD τ).loc main_arg5)

/-- The bias. -/
def bias : FVec Ideal S8192 .f32 := m ((c : Thread nD τ).loc main_arg6)

/-- Which block each input window shows at a point. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) := by
  decide +kernel

/-- The region finds the flattened rows. -/
theorem entry_rows : (V m c main_v0 : FVec Ideal S15360x2048 .bf16) = rows m c := by
  entry_read
  rfl

/-- The region finds the smoothing factors as one row. -/
theorem entry_smooth : (V m c main_v1 : FVec Ideal S1x2048 .f32) = shapeCast S1x2048 (smooth m c) shapeCasts_S2048_S1x2048 := by
  entry_read
  rfl

/-- The region finds the bias as one row. -/
theorem entry_bias : (V m c main_v2 : FVec Ideal S1x8192 .f32) = shapeCast S1x8192 (bias m c) shapeCasts_S8192_S1x8192 := by
  entry_read
  rfl

variable (t : Fin cfg0.N)

/-- The rows' window shows the 256 rows of its point. -/
theorem blk_rows (y : S256x2048.Idx) (h : 256 * t.val + (y 0).val < 15360) :
    (iblk m c 0 t : Vec Ideal S256x2048 .bf16) y = rows m c (ix2 ⟨256 * t.val + (y 0).val, h⟩ (y 1)) := by
  obtain ⟨⟨e0, e1⟩, -⟩ := index_facts t
  show (V m c main_v0 : FVec Ideal S15360x2048 .bf16) (((cfg0.win 0).blk t).view.emb y) = _
  rw [entry_rows]
  congr 1
  funext a; apply Fin.ext
  match a with
  | ⟨0, _⟩ => show win0_0.index t (0 : Fin 2) * 256 + 1 * (y 0).val = 256 * t.val + (y 0).val; omega
  | ⟨1, _⟩ => show win0_0.index t (1 : Fin 2) * 2048 + 1 * (y 1).val = (y 1).val; omega

/-- The smoothing factors' window shows them all. -/
theorem blk_smooth (j : Fin 2048) : (iblk m c 1 t : Vec Ideal S1x2048 .f32) (ix2 0 j) = smooth m c (ix1 j) := by
  obtain ⟨-, ⟨e0, e1⟩, -⟩ := index_facts t
  show (V m c main_v1 : FVec Ideal S1x2048 .f32) (((cfg0.win 1).blk t).view.emb (ix2 0 j : S1x2048.Idx)) = _
  rw [entry_smooth]
  have e : ((cfg0.win 1).blk t).view.emb (ix2 0 j : S1x2048.Idx) = (ix2 0 j : S1x2048.Idx) := by
    funext a; apply Fin.ext
    match a with
    | ⟨0, _⟩ => show win0_1.index t (0 : Fin 2) * 1 + 1 * 0 = 0; omega
    | ⟨1, _⟩ => show win0_1.index t (1 : Fin 2) * 2048 + 1 * j.val = j.val; omega
  rw [e]
  pointwise

/-- The bias's window shows it all. -/
theorem blk_bias (j : Fin 8192) : (iblk m c 6 t : Vec Ideal S1x8192 .f32) (ix2 0 j) = bias m c (ix1 j) := by
  obtain ⟨-, -, -, -, -, -, e0, e1⟩ := index_facts t
  show (V m c main_v2 : FVec Ideal S1x8192 .f32) (((cfg0.win 6).blk t).view.emb (ix2 0 j : S1x8192.Idx)) = _
  rw [entry_bias]
  have e : ((cfg0.win 6).blk t).view.emb (ix2 0 j : S1x8192.Idx) = (ix2 0 j : S1x8192.Idx) := by
    funext a; apply Fin.ext
    match a with
    | ⟨0, _⟩ => show win0_6.index t (0 : Fin 2) * 1 + 1 * 0 = 0; omega
    | ⟨1, _⟩ => show win0_6.index t (1 : Fin 2) * 8192 + 1 * j.val = j.val; omega
  rw [e]
  pointwise

/-- The angles' window shows them all. -/
theorem blk_theta : (iblk m c 2 t : Vec Ideal S11x1024 .f32) = theta m c := funext fun y => by
  obtain ⟨-, -, ⟨e0, e1⟩, -⟩ := index_facts t
  show (V m c main_arg2 : FVec Ideal S11x1024 .f32) (((cfg0.win 2).blk t).view.emb y) = _
  rw [V_main_arg2]
  show theta m c _ = theta m c y
  congr 1
  funext a; apply Fin.ext
  match a with
  | ⟨0, _⟩ => show win0_2.index t (0 : Fin 2) * 11 + 1 * (y 0).val = (y 0).val; omega
  | ⟨1, _⟩ => show win0_2.index t (1 : Fin 2) * 1024 + 1 * (y 1).val = (y 1).val; omega

/-- The codes' window shows them all. -/
theorem blk_codes : (iblk m c 3 t : Vec Ideal S8192x512 .i8) = codes m c := funext fun y => by
  obtain ⟨-, -, -, ⟨e0, e1⟩, -⟩ := index_facts t
  show (V m c main_arg3 : IVec S8192x512 8) (((cfg0.win 3).blk t).view.emb y) = _
  rw [V_main_arg3]
  show codes m c _ = codes m c y
  congr 1
  funext a; apply Fin.ext
  match a with
  | ⟨0, _⟩ => show win0_3.index t (0 : Fin 2) * 8192 + 1 * (y 0).val = (y 0).val; omega
  | ⟨1, _⟩ => show win0_3.index t (1 : Fin 2) * 512 + 1 * (y 1).val = (y 1).val; omega

/-- The zero points' window shows them all. -/
theorem blk_zero : (iblk m c 4 t : Vec Ideal S8192x32 .bf16) = zero m c := funext fun y => by
  obtain ⟨-, -, -, -, ⟨e0, e1⟩, -⟩ := index_facts t
  show (V m c main_arg5 : FVec Ideal S8192x32 .bf16) (((cfg0.win 4).blk t).view.emb y) = _
  rw [V_main_arg5]
  show zero m c _ = zero m c y
  congr 1
  funext a; apply Fin.ext
  match a with
  | ⟨0, _⟩ => show win0_4.index t (0 : Fin 2) * 8192 + 1 * (y 0).val = (y 0).val; omega
  | ⟨1, _⟩ => show win0_4.index t (1 : Fin 2) * 32 + 1 * (y 1).val = (y 1).val; omega

/-- The scales' window shows them all. -/
theorem blk_scale : (iblk m c 5 t : Vec Ideal S8192x32 .bf16) = scale m c := funext fun y => by
  obtain ⟨-, -, -, -, -, ⟨e0, e1⟩, -⟩ := index_facts t
  show (V m c main_arg4 : FVec Ideal S8192x32 .bf16) (((cfg0.win 5).blk t).view.emb y) = _
  rw [V_main_arg4]
  show scale m c _ = scale m c y
  congr 1
  funext a; apply Fin.ext
  match a with
  | ⟨0, _⟩ => show win0_5.index t (0 : Fin 2) * 8192 + 1 * (y 0).val = (y 0).val; omega
  | ⟨1, _⟩ => show win0_5.index t (1 : Fin 2) * 32 + 1 * (y 1).val = (y 1).val; omega

end Cert.KernelIdeal.Inputs

end
-- ==== Proof.Sweep.lean ====
/-
  What every grid point leaves: the tables of the first point are kept, so each point leaves its own rows, rotated, and
  their product with the weights.
-/
module

public import proofs.«01_k».proof.Proof.Value
public import proofs.«01_k».proof.Proof.PointB
public import proofs.«01_k».proof.Proof.Inputs

@[expose] public section

set_option maxRecDepth 16384

noncomputable section

namespace Cert.KernelIdeal.Sweep

open Idealize.ShloMosaic Idealize.ShloMosaic.TcCoe Idealize.SL.Sem
open Cert.KernelIdeal Cert.KernelIdeal.Gen Cert.KernelIdeal.Inputs Cert.KernelIdeal.Prep Cert.KernelIdeal.Point

variable (m : (ℓ : Loc nD τ sig) → Buf (Elt Ideal) ℓ) (c : Dev nD)

/-- The rows of a point, rotated. -/
def rowsAt (t : Fin cfg0.N) : Vec Ideal S256x2048 .bf16 := Unit.rotatedBlock (angles (theta m c)) (iblk m c 0 t) (iblk m c 1 t)

/-- The weights. -/
def weights : Vec Ideal S8192x2048 .bf16 := Deq.table (codes m c) (zero m c) (scale m c)

/-- The product at a point. -/
def productAt (t : Fin cfg0.N) : Vec Ideal S256x8192 .bf16 := Mm.productBlock (rowsAt m c t) (weights m c) (iblk m c 6 t)

/-- What the first point leaves. -/
theorem first (t : Fin cfg0.N) (h0 : t.val % 60 = 0) :
    outsAt0 m c t.val t.isLt = (productAt m c t, rowsAt m c t, weights m c, cosTable (theta m c), sinTable (theta m c)) := by
  refine (outsAt0_A m c t h0).trans ?_
  unfold productAt rowsAt weights
  rw [← blk_theta m c t, ← blk_codes m c t, ← blk_zero m c t, ← blk_scale m c t]
  exact congrArg₂ Prod.mk (out_product c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t))
    (congrArg₂ Prod.mk (out_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t))
      (congrArg₂ Prod.mk (out_weights c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t))
        (congrArg₂ Prod.mk (out_cos c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t))
          (out_sin c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)))))

/-- What a later point leaves, from what the point before left. -/
theorem later (t : Fin cfg0.N) (h0 : ¬t.val % 60 = 0) (w : Vec Ideal S8192x2048 .bf16) (x : Vec Ideal S11x1024 .f32)
    (hw : (outsAt0 m c (t.val - 1) (Nat.lt_of_le_of_lt (Nat.sub_le _ _) t.isLt)).2.2 = (w, cosTable x, sinTable x)) :
    outsAt0 m c t.val t.isLt = (Mm.productBlock (Unit.rotatedBlock (angles x) (iblk m c 0 t) (iblk m c 1 t)) w (iblk m c 6 t),
      Unit.rotatedBlock (angles x) (iblk m c 0 t) (iblk m c 1 t), w, cosTable x, sinTable x) := by
  refine (outsAt0_B m c t h0).trans ?_
  rw [hw]
  exact congrArg₂ Prod.mk (later_out_product c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) w x)
    (congrArg₂ Prod.mk (later_out_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) w x) rfl)

/-- What every point leaves. -/
theorem everywhere : ∀ (n : ℕ) (hn : n < cfg0.N),
    outsAt0 m c n hn = (productAt m c ⟨n, hn⟩, rowsAt m c ⟨n, hn⟩, weights m c, cosTable (theta m c), sinTable (theta m c)) := by
  intro n
  induction n with
  | zero => intro hn; exact first m c ⟨0, hn⟩ (Nat.zero_mod _)
  | succ n ih =>
    intro hn
    have hN := lt_of_lt_of_eq hn (show cfg0.N = 60 from N_0)
    exact later m c ⟨n + 1, hn⟩ (by show ¬(n + 1) % 60 = 0; omega) (weights m c) (theta m c)
      (congrArg (fun p => p.2.2) (ih (Nat.lt_of_succ_lt hn)))

end Cert.KernelIdeal.Sweep

end
-- ==== Proof.Result.lean ====
/-
  The kernel's two arrays after the run: the product and the rotated rows, as functions of the arguments.
-/
module

public import proofs.«01_k».proof.Proof.Sweep

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Inputs Cert.KernelIdeal.Sweep Cert.KernelIdeal.Value Cert.Places

variable (m : (ℓ : Loc nD τ sig) → Buf (Elt Ideal) ℓ) (c : Dev nD)

/-- A point's rows times the smoothing factors are those rows of the whole input times them. -/
theorem smoothed_eq (t : Fin cfg0.N) (r : Fin 256) (n : Fin 15360) (hn : n.val = 256 * t.val + r.val) (j : ℕ) (hj : j < 2048) :
    Unit.smoothed (iblk m c 0 t) (iblk m c 1 t) r.val j = Meaning.entry (rows m c) (smooth m c) n j := by
  unfold Unit.smoothed Meaning.entry at2
  rw [dif_pos ⟨r.isLt, hj⟩, dif_pos ⟨(by decide : 0 < 1), hj⟩, dif_pos hj]
  have e0 := blk_rows m c t (ix2 r ⟨j, hj⟩) (by show 256 * t.val + r.val < 15360; omega)
  have e1 := blk_smooth m c t ⟨j, hj⟩
  have en : (⟨256 * t.val + r.val, by omega⟩ : Fin 15360) = n := Fin.ext hn.symm
  refine congrArg₂ (fun a b : EReal => a * b) (e0.trans ?_) e1
  show rows m c (ix2 ⟨256 * t.val + r.val, _⟩ ⟨j, hj⟩) = _
  rw [en]

/-- A point's rotated rows are those rows of all rotated rows. -/
theorem rowsAt_eq (t : Fin cfg0.N) (r : Fin 256) (n : Fin 15360) (hn : n.val = 256 * t.val + r.val) (j : Fin 2048) :
    rowsAt m c t (ix2 r j) = Meaning.rotated (rows m c) (smooth m c) (theta m c) (ix2 n j) :=
  Spec.layers_congr (fun _ _ _ _ => rfl) (fun _ _ _ _ => rfl) (smoothed_eq m c t r n hn) 11 (le_refl _) j.val j.isLt

/-- A point's product is those rows of the whole product. -/
theorem productAt_eq (t : Fin cfg0.N) (r : Fin 256) (n : Fin 15360) (hn : n.val = 256 * t.val + r.val) (j : Fin 8192) :
    productAt m c t (ix2 r j) = Meaning.product (Meaning.rotated (rows m c) (smooth m c) (theta m c))
      (Meaning.weightAt (codes m c) (zero m c) (scale m c)) (bias m c) (ix2 n j) := by
  show (∑ k : Fin 2048, rowsAt m c t (ix2 r k) * weights m c (ix2 j k) : EReal) + (iblk m c 6 t : Vec Ideal S1x8192 .f32) (ix2 0 j)
    = (∑ k : Fin 2048, Meaning.rotated (rows m c) (smooth m c) (theta m c) (ix2 n k)
        * Meaning.weightAt (codes m c) (zero m c) (scale m c) j k : EReal) + bias m c (ix1 j)
  refine congrArg₂ (fun a b : EReal => a + b) (Finset.sum_congr rfl fun k _ => ?_) (blk_bias m c t j)
  exact congrArg (fun a : EReal => a * Meaning.weightAt (codes m c) (zero m c) (scale m c) j k) (rowsAt_eq m c t r n hn k)

/-- The second array: the rotated rows. -/
theorem rows_array : G8 m c = Meaning.rotated (rows m c) (smooth m c) (theta m c) := funext fun i => by
  have h0 : (i 0).val < 15360 := (i 0).isLt
  have h1 : (i 1).val < 2048 := (i 1).isLt
  have hN : cfg0.N = 60 := N_0
  have hp : pt8Of i < cfg0.N := by
    rw [hN]; show 1 * ((i 0).val / 256 - 0) + 1 * ((i 1).val / 2048 - 0) < 60; omega
  have e : G8 m c i = (outsAt0 m c (pt8Of i) hp).2.1 (loc8Of i) := by
    rw [outsAt0_sweep]
    exact dif_pos hp
  rw [e, everywhere]
  have el : loc8Of i = ix2 ⟨(i 0).val % 256, Nat.mod_lt _ (by decide)⟩ (i 1) := by
    funext a; apply Fin.ext
    match a with
    | ⟨0, _⟩ => rfl
    | ⟨1, _⟩ => exact Nat.mod_eq_of_lt h1
  rw [el]
  refine (rowsAt_eq m c ⟨pt8Of i, hp⟩ _ (i 0) ?_ (i 1)).trans (congrArg _ (eq_ix2 i).symm)
  show (i 0).val = 256 * (1 * ((i 0).val / 256 - 0) + 1 * ((i 1).val / 2048 - 0)) + (i 0).val % 256
  omega

/-- The first array: the product with the bias added. -/
theorem product_array : G7 m c = Meaning.product (Meaning.rotated (rows m c) (smooth m c) (theta m c))
      (Meaning.weightAt (codes m c) (zero m c) (scale m c)) (bias m c) := funext fun i => by
  have h0 : (i 0).val < 15360 := (i 0).isLt
  have h1 : (i 1).val < 8192 := (i 1).isLt
  have hN : cfg0.N = 60 := N_0
  have hp : pt7Of i < cfg0.N := by
    rw [hN]; show 1 * ((i 0).val / 256 - 0) + 1 * ((i 1).val / 8192 - 0) < 60; omega
  have e : G7 m c i = (outsAt0 m c (pt7Of i) hp).1 (loc7Of i) := by
    rw [outsAt0_sweep]
    exact dif_pos hp
  rw [e, everywhere]
  have el : loc7Of i = ix2 ⟨(i 0).val % 256, Nat.mod_lt _ (by decide)⟩ (i 1) := by
    funext a; apply Fin.ext
    match a with
    | ⟨0, _⟩ => rfl
    | ⟨1, _⟩ => exact Nat.mod_eq_of_lt h1
  rw [el]
  refine (productAt_eq m c ⟨pt7Of i, hp⟩ _ (i 0) ?_ (i 1)).trans (congrArg _ (eq_ix2 i).symm)
  show (i 0).val = 256 * (1 * ((i 0).val / 256 - 0) + 1 * ((i 1).val / 8192 - 0)) + (i 0).val % 256
  omega

end Cert.KernelIdeal.Result

end
-- ==== Proof.RefLayer.lean ====
/-
  One layer of rotations as the reference writes it: the row is split into pairs by a reshape, the two halves are mixed
  with the cosines and the sines, and put together again. Stated for any number of pairs' groups `nb` and any stride `s`.
-/
module

public import proofs.«01_k».proof.Proof.Spec
public import Idealize.ShloMosaic.Lib.Pipeline.Value

@[expose] public section

noncomputable section

namespace Cert.RefLayer

open Idealize.ShloMosaic Cert.Spec

variable {n nb s : ℕ}

/-- Rows of pairs. -/
abbrev R4 (n nb h s : ℕ) : Shape := ⟨4, ![n, nb, h, s]⟩
/-- Rows of one half. -/
abbrev R3 (n nb s : ℕ) : Shape := ⟨3, ![n, nb, s]⟩
/-- Rows. -/
abbrev R2 (n w : ℕ) : Shape := ⟨2, ![n, w]⟩

/-- Flipping a bit of a column number adds or subtracts the bit. -/
theorem xor_two_pow : ∀ l : Fin 11, ∀ j : Fin 2048,
    j.val ^^^ 2 ^ l.val = if j.val / 2 ^ l.val % 2 = 0 then j.val + 2 ^ l.val else j.val - 2 ^ l.val := by
  decide +kernel

/-- The lower (`p = 0`) or upper (`p = 1`) halves of all pairs. -/
def half (p : ℕ) (x : FVec Ideal (R4 n nb 2 s) .f32) (h1 : (R4 n nb 2 s).Slices ![0, 0, p, 0] (R4 n nb 1 s))
    (h2 : (R4 n nb 1 s).ShapeCasts (R3 n nb s)) : FVec Ideal (R3 n nb s) .f32 :=
  shapeCast _ (extractStridedSlice (R4 n nb 1 s) ![0, 0, p, 0] x h1) h2

/-- A half, number by number. -/
theorem half_apply (p : Fin 2) (x : FVec Ideal (R4 n nb 2 s) .f32) (h1 h2) (r : Fin n) (i : Fin nb) (k : Fin s) :
    half p.val x h1 h2 (ix3 r i k) = x (ix4 r i p k) := by
  unfold half
  rw [shapeCast_apply _ _ _ (ix4 r i (0 : Fin 1) k)]
  · unfold extractStridedSlice
    refine congrArg x (funext fun a => ?_)
    match a with
    | ⟨0, _⟩ => exact Fin.ext (Nat.zero_add _)
    | ⟨1, _⟩ => exact Fin.ext (Nat.zero_add _)
    | ⟨2, _⟩ => exact Fin.ext (Nat.add_zero _)
    | ⟨3, _⟩ => exact Fin.ext (Nat.zero_add _)
  · rw [rowMajor_val4 _ _ _ _ rfl rfl rfl, rowMajor_val3 _ _ _ rfl rfl]
    show r.val * (nb * (1 * s)) + i.val * (1 * s) + 0 * s + k.val = r.val * (nb * s) + i.val * s + k.val
    rw [Nat.one_mul, Nat.zero_mul, Nat.add_zero]

/-- A table of one number per pair, repeated for every row. -/
def spread (t : FVec Ideal (R2 nb s) .f32) (h1 : (R2 nb s).BroadcastsInDim (R3 1 nb s) (![1, 2] : Fin 2 → Fin 3))
    (h2 : (R3 1 nb s).BroadcastsInDim (R3 n nb s) (![0, 1, 2] : Fin 3 → Fin 3)) : FVec Ideal (R3 n nb s) .f32 :=
  broadcastInDim (R3 n nb s) ![0, 1, 2] h2 (broadcastInDim (R3 1 nb s) ![1, 2] h1 t)

/-- A repeated table, number by number. -/
theorem spread_apply (t : FVec Ideal (R2 nb s) .f32) (h1 h2) (r : Fin n) (i : Fin nb) (k : Fin s) :
    spread t h1 h2 (ix3 r i k) = t (ix2 i k) := by
  unfold spread
  rw [broadcastInDim_apply _ _ _ _ (ix3 (0 : Fin 1) i k), broadcastInDim_apply _ _ _ _ (ix2 i k)]
  · intro a
    match a with
    | ⟨0, _⟩ => show i.val = if nb = 1 then 0 else i.val; split <;> omega
    | ⟨1, _⟩ => show k.val = if s = 1 then 0 else k.val; split <;> omega
  · intro a
    match a with
    | ⟨0, _⟩ => rfl
    | ⟨1, _⟩ => show i.val = if nb = 1 then 0 else i.val; split <;> omega
    | ⟨2, _⟩ => show k.val = if s = 1 then 0 else k.val; split <;> omega

/-- The facts about shapes that one layer's operations rest on. -/
structure Facts (n nb s : ℕ) : Prop where
  lower : (R4 n nb 2 s).Slices ![0, 0, 0, 0] (R4 n nb 1 s)
  upper : (R4 n nb 2 s).Slices ![0, 0, 1, 0] (R4 n nb 1 s)
  squeeze : (R4 n nb 1 s).ShapeCasts (R3 n nb s)
  row : (R2 nb s).BroadcastsInDim (R3 1 nb s) (![1, 2] : Fin 2 → Fin 3)
  rows : (R3 1 nb s).BroadcastsInDim (R3 n nb s) (![0, 1, 2] : Fin 3 → Fin 3)
  unsqueeze : (R3 n nb s).BroadcastsInDim (R4 n nb 1 s) (![0, 1, 3] : Fin 3 → Fin 4)
  join : Shape.Concatenates [R4 n nb 1 s, R4 n nb 1 s] (R4 n nb 2 s) 2
  flat : (R4 n nb 2 s).ShapeCasts (R2 n 2048)

/-- One layer. -/
def mixed (f : Facts n nb s) (c sn : FVec Ideal (R2 nb s) .f32) (a b : FVec Ideal (R3 n nb s) .f32) : FVec Ideal (R2 n 2048) .f32 :=
  shapeCast _ (concatenate (R4 n nb 2 s) 2
    [⟨R4 n nb 1 s, broadcastInDim (R4 n nb 1 s) ![0, 1, 3] f.unsqueeze
        (subf (mulf (spread c f.row f.rows) a) (mulf (spread sn f.row f.rows) b))⟩,
      ⟨R4 n nb 1 s, broadcastInDim (R4 n nb 1 s) ![0, 1, 3] f.unsqueeze
        (addf (mulf (spread sn f.row f.rows) a) (mulf (spread c f.row f.rows) b))⟩] f.join) f.flat

/-- Adding a unit axis, number by number. -/
theorem unsqueeze_apply (x : FVec Ideal (R3 n nb s) .f32) (h) (r : Fin n) (i : Fin nb) (z : Fin 1) (k : Fin s) :
    broadcastInDim (R4 n nb 1 s) (![0, 1, 3] : Fin 3 → Fin 4) h x (ix4 r i z k) = x (ix3 r i k) := by
  rw [broadcastInDim_apply _ _ _ _ (ix3 r i k)]
  intro a
  match a with
  | ⟨0, _⟩ => show r.val = if n = 1 then 0 else r.val; split <;> omega
  | ⟨1, _⟩ => show i.val = if nb = 1 then 0 else i.val; split <;> omega
  | ⟨2, _⟩ => show k.val = if s = 1 then 0 else k.val; split <;> omega

/-- One layer, number by number, at a column given by its pair and half. -/
theorem mixed_apply (f : Facts n nb s) (hw : nb * (2 * s) = 2048) (c sn : FVec Ideal (R2 nb s) .f32)
    (a b : FVec Ideal (R3 n nb s) .f32) (r : Fin n) (i : Fin nb) (h : Fin 2) (k : Fin s) (j : Fin 2048)
    (hj : j.val = i.val * (2 * s) + h.val * s + k.val) :
    mixed f c sn a b (ix2 r j) =
      if h.val = 0 then c (ix2 i k) * a (ix3 r i k) - sn (ix2 i k) * b (ix3 r i k)
      else sn (ix2 i k) * a (ix3 r i k) + c (ix2 i k) * b (ix3 r i k) := by
  unfold mixed
  rw [shapeCast_apply _ _ _ (ix4 r i h k)]
  · rw [concatenate_pair_apply]
    match h with
    | ⟨0, _⟩ =>
      rw [dif_pos (by show 0 < 1; decide), if_pos rfl]
      have e : (Shape.Idx.norm fun b => ⟨((ix4 r i (⟨0, by decide⟩ : Fin 2) k : (R4 n nb 2 s).Idx) (b.cast f.join.rank_fst)).val,
          f.join.fst_lt _ (by show 0 < 1; decide) b⟩ : (R4 n nb 1 s).Idx) = ix4 r i (0 : Fin 1) k := by
        funext x
        match x with
        | ⟨0, _⟩ => rfl
        | ⟨1, _⟩ => rfl
        | ⟨2, _⟩ => rfl
        | ⟨3, _⟩ => rfl
      rw [e, unsqueeze_apply, subf_apply, mulf_apply, mulf_apply, spread_apply, spread_apply]
      rfl
    | ⟨1, _⟩ =>
      rw [dif_neg (by show ¬ 1 < 1; decide), if_neg (by show ¬ (1 : ℕ) = 0; decide)]
      refine (congrArg _ (?_ : _ = ix4 r i (0 : Fin 1) k)).trans ?_
      · funext x
        match x with
        | ⟨0, _⟩ => rfl
        | ⟨1, _⟩ => rfl
        | ⟨2, _⟩ => rfl
        | ⟨3, _⟩ => rfl
      · rw [unsqueeze_apply, addf_apply, mulf_apply, mulf_apply, spread_apply, spread_apply]
        rfl
  · rw [rowMajor_val4 _ _ _ _ rfl rfl rfl, rowMajor_val2 _ _ rfl]
    show r.val * (nb * (2 * s)) + i.val * (2 * s) + h.val * s + k.val = r.val * 2048 + j.val
    rw [hw]; omega

/-- Rows split into pairs hold the numbers `V`. -/
def Pairs (x : FVec Ideal (R4 n nb 2 s) .f32) (V : Fin n → ℕ → EReal) : Prop :=
  ∀ r i (h : Fin 2) k, x (ix4 r i h k) = V r (i.val * (2 * s) + h.val * s + k.val)

/-- Rows hold the numbers `V`. -/
def Rows (x : FVec Ideal (R2 n 2048) .f32) (V : Fin n → ℕ → EReal) : Prop := ∀ r (j : Fin 2048), x (ix2 r j) = V r j.val

/-- Splitting rows into pairs keeps the numbers. -/
theorem pairs_of_rows (x : FVec Ideal (R2 n 2048) .f32) (V : Fin n → ℕ → EReal) (hx : Rows x V)
    (hw : nb * (2 * s) = 2048) (h : (R2 n 2048).ShapeCasts (R4 n nb 2 s)) : Pairs (shapeCast _ x h) V := by
  intro r i p k
  have hlt : i.val * (2 * s) + p.val * s + k.val < 2048 := by
    have h1 : (i.val + 1) * (2 * s) ≤ nb * (2 * s) := Nat.mul_le_mul_right _ i.isLt
    have h2 : p.val * s ≤ 1 * s := Nat.mul_le_mul_right _ (by omega)
    have h3 := k.isLt
    rw [Nat.add_mul] at h1
    omega
  rw [shapeCast_apply _ _ _ (ix2 r (⟨_, hlt⟩ : Fin 2048)), hx]
  rw [rowMajor_val4 _ _ _ _ rfl rfl rfl, rowMajor_val2 _ _ rfl]
  show r.val * 2048 + _ = r.val * (nb * (2 * s)) + i.val * (2 * s) + p.val * s + k.val
  rw [hw]; simp only [Nat.add_assoc]; rfl

/-- The reference's layer `l` is the mathematical one. -/
theorem mixed_rows (f : Facts n nb s) (hw : nb * (2 * s) = 2048) (l : ℕ) (hl : l < 11) (hs : s = 2 ^ l)
    (θ : ℕ → ℕ → EReal) (t : FVec Ideal (R2 nb s) .f32) (ht : ∀ i k, t (ix2 i k) = θ l (i.val * s + k.val))
    (x : FVec Ideal (R4 n nb 2 s) .f32) (V : Fin n → ℕ → EReal) (hx : Pairs x V) :
    Rows (mixed f (Host.cos t) (Host.sin t) (half 0 x f.lower f.squeeze) (half 1 x f.upper f.squeeze))
      (fun r => layer (co θ) (si θ) l (V r)) := by
  intro r j
  have hs0 : 0 < s := by rw [hs]; exact Nat.two_pow_pos l
  have hj := j.isLt
  have hi : j.val / (2 * s) < nb := Nat.div_lt_of_lt_mul (by rw [Nat.mul_comm, hw]; exact hj)
  have e1 : j.val / (2 * s) = j.val / s / 2 := by rw [Nat.mul_comm, Nat.div_div_eq_div_mul]
  have e2 := Nat.div_add_mod j.val s
  have e3 := Nat.div_add_mod (j.val / s) 2
  have ej : j.val = j.val / (2 * s) * (2 * s) + j.val / s % 2 * s + j.val % s := by
    rw [e1]
    calc j.val = s * (j.val / s) + j.val % s := e2.symm
      _ = s * (2 * (j.val / s / 2) + j.val / s % 2) + j.val % s := by rw [e3]
      _ = _ := by ring
  have hpair : pair l j.val = j.val / (2 * s) * s + j.val % s := by
    unfold pair; rw [pow_succ, ← hs, Nat.mul_comm s 2]
  have hbit : j.val.testBit l = decide (j.val / s % 2 = 1) := by
    rw [hs]; exact Nat.testBit_eq_decide_div_mod_eq
  have hxor := xor_two_pow ⟨l, hl⟩ j
  simp only [← hs] at hxor
  have H0 : ∀ r i k, half 0 x f.lower f.squeeze (ix3 r i k) = x (ix4 r i (0 : Fin 2) k) := half_apply (0 : Fin 2) x _ _
  have H1 : ∀ r i k, half 1 x f.upper f.squeeze (ix3 r i k) = x (ix4 r i (1 : Fin 2) k) := half_apply (1 : Fin 2) x _ _
  rw [mixed_apply f hw _ _ _ _ r ⟨_, hi⟩ ⟨j.val / s % 2, Nat.mod_lt _ (by decide)⟩ ⟨j.val % s, Nat.mod_lt _ hs0⟩ j ej,
    H0, H1, hx, hx]
  have hc : Host.cos t (ix2 ⟨_, hi⟩ ⟨j.val % s, Nat.mod_lt _ hs0⟩) = Ideal.cos (θ l (pair l j.val)) := by
    rw [hpair]; exact congrArg Ideal.cos (ht _ _)
  have hsn : Host.sin t (ix2 ⟨_, hi⟩ ⟨j.val % s, Nat.mod_lt _ hs0⟩) = Ideal.sin (θ l (pair l j.val)) := by
    rw [hpair]; exact congrArg Ideal.sin (ht _ _)
  rw [hc, hsn]
  show _ = co θ l j.val * V r j.val + si θ l j.val * V r (j.val ^^^ 2 ^ l)
  rw [← hs, hxor]
  unfold co si
  rw [hbit]
  rcases Nat.mod_two_eq_zero_or_one (j.val / s) with h0 | h1
  · rw [if_pos h0, if_pos h0, if_neg (by rw [h0]; decide)]
    have a0 : j.val / (2 * s) * (2 * s) + (0 : Fin 2).val * s + j.val % s = j.val := by
      rw [h0] at ej; exact ej.symm
    have a1 : j.val / (2 * s) * (2 * s) + (1 : Fin 2).val * s + j.val % s = j.val + s := by
      show _ + 1 * s + _ = _
      rw [h0] at ej; omega
    show _ * V r (j.val / (2 * s) * (2 * s) + (0 : Fin 2).val * s + j.val % s)
      - _ * V r (j.val / (2 * s) * (2 * s) + (1 : Fin 2).val * s + j.val % s) = _
    rw [a0, a1, EReal.neg_mul, sub_eq_add_neg]
  · have k0 : ¬ j.val / s % 2 = 0 := by omega
    rw [if_neg k0, if_neg k0, if_pos (by rw [h1]; decide)]
    have a1 : j.val / (2 * s) * (2 * s) + (1 : Fin 2).val * s + j.val % s = j.val := by
      rw [h1] at ej; exact ej.symm
    have a0 : j.val / (2 * s) * (2 * s) + (0 : Fin 2).val * s + j.val % s = j.val - s := by
      show _ + 0 * s + _ = _
      rw [h1] at ej; omega
    show _ * V r (j.val / (2 * s) * (2 * s) + (0 : Fin 2).val * s + j.val % s)
      + _ * V r (j.val / (2 * s) * (2 * s) + (1 : Fin 2).val * s + j.val % s) = _
    rw [a0, a1, add_comm]

end Cert.RefLayer

end
-- ==== Proof.RefRows.lean ====
/-
  The reference's results, number by number.
-/
module

public import proofs.«01_k».proof.Proof.RefLayer
public import proofs.«01_k».proof.Proof.Meaning
public import proofs.«01_k».proof.Proof.Gen.ReferenceIdeal.Run

@[expose] public section

set_option maxRecDepth 8192

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec Cert.RefLayer Cert.Meaning

/-- The angles of a layer, laid out as one number per pair. -/
theorem theta_apply {nb s : ℕ} (l : ℕ) (hl : l < 11) (th : FVec Ideal S11x1024 .f32) (h1 : S11x1024.Slices ![l, 0] S1x1024)
    (h2 : S1x1024.ShapeCasts S1024) (h3 : S1024.ShapeCasts (R2 nb s)) (hw : nb * (2 * s) = 2048) (i : Fin nb) (k : Fin s) :
    shapeCast (R2 nb s) (shapeCast S1024 (extractStridedSlice S1x1024 ![l, 0] th h1) h2) h3 (ix2 i k)
      = angles th l (i.val * s + k.val) := by
  have hlt : i.val * s + k.val < 1024 := by
    have a1 : (i.val + 1) * s ≤ nb * s := Nat.mul_le_mul_right _ i.isLt
    have a2 : nb * (2 * s) = 2 * (nb * s) := by ring
    have a3 := k.isLt
    rw [Nat.add_mul] at a1
    omega
  rw [shapeCast_apply _ h3 _ (ix1 (⟨_, hlt⟩ : Fin 1024)), shapeCast_apply _ h2 _ (ix2 (0 : Fin 1) (⟨_, hlt⟩ : Fin 1024))]
  · unfold angles
    rw [dif_pos ⟨hl, hlt⟩]
    unfold extractStridedSlice
    refine congrArg th (funext fun a => ?_)
    match a with
    | ⟨0, _⟩ => exact Fin.ext (Nat.add_zero _)
    | ⟨1, _⟩ => exact Fin.ext (Nat.zero_add _)
  · rw [rowMajor_val1, rowMajor_val2 _ _ rfl]
    exact (Nat.zero_add _)
  · rw [rowMajor_val1, rowMajor_val2 _ _ rfl]
    rfl

variable (V0 : Valuation τ sig (Elt Ideal))

/-- The input as rows. -/
def rowsIn : FVec Ideal S15360x2048 .bf16 := shapeCast _ (V0 (Proc.devRef .tc main_arg0)) shapeCasts_S24x640x2048_S15360x2048
/-- The smoothing factors. -/
def smoothIn : FVec Ideal S2048 .f32 := V0 (Proc.devRef .tc main_arg1)
/-- The angles. -/
def thetaIn : FVec Ideal S11x1024 .f32 := V0 (Proc.devRef .tc main_arg2)
/-- The numbers of a row after `n` layers. -/
def after' (n : ℕ) (r : Fin 15360) : ℕ → EReal :=
  layers (co (angles (thetaIn V0))) (si (angles (thetaIn V0))) n (entry (rowsIn V0) (smoothIn V0) r)

/-- The rows before the first layer. -/
theorem rows_start : Rows (mulf (extf .f32 (rowsIn V0) bitsLt_bf16_f32)
    (broadcastInDim S15360x2048 ![0, 1] bcast_S1x2048_S15360x2048_0_1 (broadcastInDim S1x2048 ![1] bcast_S2048_S1x2048_1 (smoothIn V0))))
    (after' V0 0) := by
  intro r j
  rw [mulf_apply, broadcastInDim_apply _ _ _ _ (ix2 (0 : Fin 1) j), broadcastInDim_apply _ _ _ _ (ix1 j)]
  · show _ = entry _ _ r j.val
    unfold entry
    rw [dif_pos j.isLt]
    rfl
  · intro a
    match a with
    | ⟨0, _⟩ => rfl
  · intro a
    match a with
    | ⟨0, _⟩ => rfl
    | ⟨1, _⟩ => rfl

/-- The rows before the first layer, split into pairs. -/
theorem pairs_0 : Pairs (n := 15360) (nb := 1024) (s := 1) (res_main_v5 V0) (after' V0 0) :=
  pairs_of_rows _ _ (rows_start V0) (by decide) _

/-- The shapes of layer 0. -/
theorem facts_0 : RefLayer.Facts 15360 1024 1 where
  lower := slices_S15360x1024x2x1_S15360x1024x1x1_0_0_0_0
  upper := slices_S15360x1024x2x1_S15360x1024x1x1_0_0_1_0
  squeeze := shapeCasts_S15360x1024x1x1_S15360x1024x1
  row := bcast_S1024x1_S1x1024x1_1_2
  rows := bcast_S1x1024x1_S15360x1024x1_0_1_2
  unsqueeze := bcast_S15360x1024x1_S15360x1024x1x1_0_1_3
  join := concatenates_S15360x1024x1x1_S15360x1024x1x1_S15360x1024x2x1_d2
  flat := shapeCasts_S15360x1024x2x1_S15360x2048

/-- The rows after layer 0. -/
theorem rows_0 : Rows (mixed facts_0 (res_main_v13 V0) (res_main_v14 V0) (res_main_v7 V0) (res_main_v9 V0)) (after' V0 1) :=
  mixed_rows facts_0 (by decide) 0 (by decide) (by decide) (angles (thetaIn V0)) (res_main_v12 V0)
    (fun i k => theta_apply 0 (by decide) (thetaIn V0) _ _ _ (by decide) i k) (res_main_v5 V0) _ (pairs_0 V0)

/-- The rows after layer 0, split into pairs. -/
theorem pairs_1 : Pairs (n := 15360) (nb := 512) (s := 2) (res_main_v33 V0) (after' V0 1) :=
  pairs_of_rows _ _ (rows_0 V0) (by decide) _

/-- The shapes of layer 1. -/
theorem facts_1 : RefLayer.Facts 15360 512 2 where
  lower := slices_S15360x512x2x2_S15360x512x1x2_0_0_0_0
  upper := slices_S15360x512x2x2_S15360x512x1x2_0_0_1_0
  squeeze := shapeCasts_S15360x512x1x2_S15360x512x2
  row := bcast_S512x2_S1x512x2_1_2
  rows := bcast_S1x512x2_S15360x512x2_0_1_2
  unsqueeze := bcast_S15360x512x2_S15360x512x1x2_0_1_3
  join := concatenates_S15360x512x1x2_S15360x512x1x2_S15360x512x2x2_d2
  flat := shapeCasts_S15360x512x2x2_S15360x2048

/-- The rows after layer 1. -/
theorem rows_1 : Rows (mixed facts_1 (res_main_v41 V0) (res_main_v42 V0) (res_main_v35 V0) (res_main_v37 V0)) (after' V0 2) :=
  mixed_rows facts_1 (by decide) 1 (by decide) (by decide) (angles (thetaIn V0)) (res_main_v40 V0)
    (fun i k => theta_apply 1 (by decide) (thetaIn V0) _ _ _ (by decide) i k) (res_main_v33 V0) _ (pairs_1 V0)

/-- The rows after layer 1, split into pairs. -/
theorem pairs_2 : Pairs (n := 15360) (nb := 256) (s := 4) (res_main_v61 V0) (after' V0 2) :=
  pairs_of_rows _ _ (rows_1 V0) (by decide) _

/-- The shapes of layer 2. -/
theorem facts_2 : RefLayer.Facts 15360 256 4 where
  lower := slices_S15360x256x2x4_S15360x256x1x4_0_0_0_0
  upper := slices_S15360x256x2x4_S15360x256x1x4_0_0_1_0
  squeeze := shapeCasts_S15360x256x1x4_S15360x256x4
  row := bcast_S256x4_S1x256x4_1_2
  rows := bcast_S1x256x4_S15360x256x4_0_1_2
  unsqueeze := bcast_S15360x256x4_S15360x256x1x4_0_1_3
  join := concatenates_S15360x256x1x4_S15360x256x1x4_S15360x256x2x4_d2
  flat := shapeCasts_S15360x256x2x4_S15360x2048

/-- The rows after layer 2. -/
theorem rows_2 : Rows (mixed facts_2 (res_main_v69 V0) (res_main_v70 V0) (res_main_v63 V0) (res_main_v65 V0)) (after' V0 3) :=
  mixed_rows facts_2 (by decide) 2 (by decide) (by decide) (angles (thetaIn V0)) (res_main_v68 V0)
    (fun i k => theta_apply 2 (by decide) (thetaIn V0) _ _ _ (by decide) i k) (res_main_v61 V0) _ (pairs_2 V0)

/-- The rows after layer 2, split into pairs. -/
theorem pairs_3 : Pairs (n := 15360) (nb := 128) (s := 8) (res_main_v89 V0) (after' V0 3) :=
  pairs_of_rows _ _ (rows_2 V0) (by decide) _

/-- The shapes of layer 3. -/
theorem facts_3 : RefLayer.Facts 15360 128 8 where
  lower := slices_S15360x128x2x8_S15360x128x1x8_0_0_0_0
  upper := slices_S15360x128x2x8_S15360x128x1x8_0_0_1_0
  squeeze := shapeCasts_S15360x128x1x8_S15360x128x8
  row := bcast_S128x8_S1x128x8_1_2
  rows := bcast_S1x128x8_S15360x128x8_0_1_2
  unsqueeze := bcast_S15360x128x8_S15360x128x1x8_0_1_3
  join := concatenates_S15360x128x1x8_S15360x128x1x8_S15360x128x2x8_d2
  flat := shapeCasts_S15360x128x2x8_S15360x2048

/-- The rows after layer 3. -/
theorem rows_3 : Rows (mixed facts_3 (res_main_v97 V0) (res_main_v98 V0) (res_main_v91 V0) (res_main_v93 V0)) (after' V0 4) :=
  mixed_rows facts_3 (by decide) 3 (by decide) (by decide) (angles (thetaIn V0)) (res_main_v96 V0)
    (fun i k => theta_apply 3 (by decide) (thetaIn V0) _ _ _ (by decide) i k) (res_main_v89 V0) _ (pairs_3 V0)

/-- The rows after layer 3, split into pairs. -/
theorem pairs_4 : Pairs (n := 15360) (nb := 64) (s := 16) (res_main_v117 V0) (after' V0 4) :=
  pairs_of_rows _ _ (rows_3 V0) (by decide) _

/-- The shapes of layer 4. -/
theorem facts_4 : RefLayer.Facts 15360 64 16 where
  lower := slices_S15360x64x2x16_S15360x64x1x16_0_0_0_0
  upper := slices_S15360x64x2x16_S15360x64x1x16_0_0_1_0
  squeeze := shapeCasts_S15360x64x1x16_S15360x64x16
  row := bcast_S64x16_S1x64x16_1_2
  rows := bcast_S1x64x16_S15360x64x16_0_1_2
  unsqueeze := bcast_S15360x64x16_S15360x64x1x16_0_1_3
  join := concatenates_S15360x64x1x16_S15360x64x1x16_S15360x64x2x16_d2
  flat := shapeCasts_S15360x64x2x16_S15360x2048

/-- The rows after layer 4. -/
theorem rows_4 : Rows (mixed facts_4 (res_main_v125 V0) (res_main_v126 V0) (res_main_v119 V0) (res_main_v121 V0)) (after' V0 5) :=
  mixed_rows facts_4 (by decide) 4 (by decide) (by decide) (angles (thetaIn V0)) (res_main_v124 V0)
    (fun i k => theta_apply 4 (by decide) (thetaIn V0) _ _ _ (by decide) i k) (res_main_v117 V0) _ (pairs_4 V0)

/-- The rows after layer 4, split into pairs. -/
theorem pairs_5 : Pairs (n := 15360) (nb := 32) (s := 32) (res_main_v145 V0) (after' V0 5) :=
  pairs_of_rows _ _ (rows_4 V0) (by decide) _

/-- The shapes of layer 5. -/
theorem facts_5 : RefLayer.Facts 15360 32 32 where
  lower := slices_S15360x32x2x32_S15360x32x1x32_0_0_0_0
  upper := slices_S15360x32x2x32_S15360x32x1x32_0_0_1_0
  squeeze := shapeCasts_S15360x32x1x32_S15360x32x32
  row := bcast_S32x32_S1x32x32_1_2
  rows := bcast_S1x32x32_S15360x32x32_0_1_2
  unsqueeze := bcast_S15360x32x32_S15360x32x1x32_0_1_3
  join := concatenates_S15360x32x1x32_S15360x32x1x32_S15360x32x2x32_d2
  flat := shapeCasts_S15360x32x2x32_S15360x2048

/-- The rows after layer 5. -/
theorem rows_5 : Rows (mixed facts_5 (res_main_v153 V0) (res_main_v154 V0) (res_main_v147 V0) (res_main_v149 V0)) (after' V0 6) :=
  mixed_rows facts_5 (by decide) 5 (by decide) (by decide) (angles (thetaIn V0)) (res_main_v152 V0)
    (fun i k => theta_apply 5 (by decide) (thetaIn V0) _ _ _ (by decide) i k) (res_main_v145 V0) _ (pairs_5 V0)

/-- The rows after layer 5, split into pairs. -/
theorem pairs_6 : Pairs (n := 15360) (nb := 16) (s := 64) (res_main_v173 V0) (after' V0 6) :=
  pairs_of_rows _ _ (rows_5 V0) (by decide) _

/-- The shapes of layer 6. -/
theorem facts_6 : RefLayer.Facts 15360 16 64 where
  lower := slices_S15360x16x2x64_S15360x16x1x64_0_0_0_0
  upper := slices_S15360x16x2x64_S15360x16x1x64_0_0_1_0
  squeeze := shapeCasts_S15360x16x1x64_S15360x16x64
  row := bcast_S16x64_S1x16x64_1_2
  rows := bcast_S1x16x64_S15360x16x64_0_1_2
  unsqueeze := bcast_S15360x16x64_S15360x16x1x64_0_1_3
  join := concatenates_S15360x16x1x64_S15360x16x1x64_S15360x16x2x64_d2
  flat := shapeCasts_S15360x16x2x64_S15360x2048

/-- The rows after layer 6. -/
theorem rows_6 : Rows (mixed facts_6 (res_main_v181 V0) (res_main_v182 V0) (res_main_v175 V0) (res_main_v177 V0)) (after' V0 7) :=
  mixed_rows facts_6 (by decide) 6 (by decide) (by decide) (angles (thetaIn V0)) (res_main_v180 V0)
    (fun i k => theta_apply 6 (by decide) (thetaIn V0) _ _ _ (by decide) i k) (res_main_v173 V0) _ (pairs_6 V0)

/-- The rows after layer 6, split into pairs. -/
theorem pairs_7 : Pairs (n := 15360) (nb := 8) (s := 128) (res_main_v201 V0) (after' V0 7) :=
  pairs_of_rows _ _ (rows_6 V0) (by decide) _

/-- The shapes of layer 7. -/
theorem facts_7 : RefLayer.Facts 15360 8 128 where
  lower := slices_S15360x8x2x128_S15360x8x1x128_0_0_0_0
  upper := slices_S15360x8x2x128_S15360x8x1x128_0_0_1_0
  squeeze := shapeCasts_S15360x8x1x128_S15360x8x128
  row := bcast_S8x128_S1x8x128_1_2
  rows := bcast_S1x8x128_S15360x8x128_0_1_2
  unsqueeze := bcast_S15360x8x128_S15360x8x1x128_0_1_3
  join := concatenates_S15360x8x1x128_S15360x8x1x128_S15360x8x2x128_d2
  flat := shapeCasts_S15360x8x2x128_S15360x2048

/-- The rows after layer 7. -/
theorem rows_7 : Rows (mixed facts_7 (res_main_v209 V0) (res_main_v210 V0) (res_main_v203 V0) (res_main_v205 V0)) (after' V0 8) :=
  mixed_rows facts_7 (by decide) 7 (by decide) (by decide) (angles (thetaIn V0)) (res_main_v208 V0)
    (fun i k => theta_apply 7 (by decide) (thetaIn V0) _ _ _ (by decide) i k) (res_main_v201 V0) _ (pairs_7 V0)

/-- The rows after layer 7, split into pairs. -/
theorem pairs_8 : Pairs (n := 15360) (nb := 4) (s := 256) (res_main_v229 V0) (after' V0 8) :=
  pairs_of_rows _ _ (rows_7 V0) (by decide) _

/-- The shapes of layer 8. -/
theorem facts_8 : RefLayer.Facts 15360 4 256 where
  lower := slices_S15360x4x2x256_S15360x4x1x256_0_0_0_0
  upper := slices_S15360x4x2x256_S15360x4x1x256_0_0_1_0
  squeeze := shapeCasts_S15360x4x1x256_S15360x4x256
  row := bcast_S4x256_S1x4x256_1_2
  rows := bcast_S1x4x256_S15360x4x256_0_1_2
  unsqueeze := bcast_S15360x4x256_S15360x4x1x256_0_1_3
  join := concatenates_S15360x4x1x256_S15360x4x1x256_S15360x4x2x256_d2
  flat := shapeCasts_S15360x4x2x256_S15360x2048

/-- The rows after layer 8. -/
theorem rows_8 : Rows (mixed facts_8 (res_main_v237 V0) (res_main_v238 V0) (res_main_v231 V0) (res_main_v233 V0)) (after' V0 9) :=
  mixed_rows facts_8 (by decide) 8 (by decide) (by decide) (angles (thetaIn V0)) (res_main_v236 V0)
    (fun i k => theta_apply 8 (by decide) (thetaIn V0) _ _ _ (by decide) i k) (res_main_v229 V0) _ (pairs_8 V0)

/-- The rows after layer 8, split into pairs. -/
theorem pairs_9 : Pairs (n := 15360) (nb := 2) (s := 512) (res_main_v257 V0) (after' V0 9) :=
  pairs_of_rows _ _ (rows_8 V0) (by decide) _

/-- The shapes of layer 9. -/
theorem facts_9 : RefLayer.Facts 15360 2 512 where
  lower := slices_S15360x2x2x512_S15360x2x1x512_0_0_0_0
  upper := slices_S15360x2x2x512_S15360x2x1x512_0_0_1_0
  squeeze := shapeCasts_S15360x2x1x512_S15360x2x512
  row := bcast_S2x512_S1x2x512_1_2
  rows := bcast_S1x2x512_S15360x2x512_0_1_2
  unsqueeze := bcast_S15360x2x512_S15360x2x1x512_0_1_3
  join := concatenates_S15360x2x1x512_S15360x2x1x512_S15360x2x2x512_d2
  flat := shapeCasts_S15360x2x2x512_S15360x2048

/-- The rows after layer 9. -/
theorem rows_9 : Rows (mixed facts_9 (res_main_v265 V0) (res_main_v266 V0) (res_main_v259 V0) (res_main_v261 V0)) (after' V0 10) :=
  mixed_rows facts_9 (by decide) 9 (by decide) (by decide) (angles (thetaIn V0)) (res_main_v264 V0)
    (fun i k => theta_apply 9 (by decide) (thetaIn V0) _ _ _ (by decide) i k) (res_main_v257 V0) _ (pairs_9 V0)

/-- The rows after layer 9, split into pairs. -/
theorem pairs_10 : Pairs (n := 15360) (nb := 1) (s := 1024) (res_main_v285 V0) (after' V0 10) :=
  pairs_of_rows _ _ (rows_9 V0) (by decide) _

/-- The shapes of layer 10. -/
theorem facts_10 : RefLayer.Facts 15360 1 1024 where
  lower := slices_S15360x1x2x1024_S15360x1x1x1024_0_0_0_0
  upper := slices_S15360x1x2x1024_S15360x1x1x1024_0_0_1_0
  squeeze := shapeCasts_S15360x1x1x1024_S15360x1x1024
  row := bcast_S1x1024_S1x1x1024_1_2
  rows := bcast_S1x1x1024_S15360x1x1024_0_1_2
  unsqueeze := bcast_S15360x1x1024_S15360x1x1x1024_0_1_3
  join := concatenates_S15360x1x1x1024_S15360x1x1x1024_S15360x1x2x1024_d2
  flat := shapeCasts_S15360x1x2x1024_S15360x2048

/-- The rows after layer 10. -/
theorem rows_10 : Rows (mixed facts_10 (res_main_v293 V0) (res_main_v294 V0) (res_main_v287 V0) (res_main_v289 V0)) (after' V0 11) :=
  mixed_rows facts_10 (by decide) 10 (by decide) (by decide) (angles (thetaIn V0)) (res_main_v292 V0)
    (fun i k => theta_apply 10 (by decide) (thetaIn V0) _ _ _ (by decide) i k) (res_main_v285 V0) _ (pairs_10 V0)

end Cert.ReferenceIdeal.Value

end
-- ==== Proof.RefWeights.lean ====
/-
  The reference's dequantised weights, number by number.
-/
module

public import proofs.«01_k».proof.Proof.RefRows

@[expose] public section

set_option maxRecDepth 8192

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec Cert.RefLayer Cert.Meaning

/-- The codes as the reference unpacks them: four to a byte. -/
def codesRef (w : IVec S8192x512 8) : IVec S8192x512x4 32 :=
  andi (Host.shrsi (broadcastInDim S8192x512x4 ![0, 1, 2] bcast_S8192x512x1_S8192x512x4_0_1_2 (broadcastInDim S8192x512x1 ![0, 1] bcast_S8192x512_S8192x512x1_0_1 (extui 32 w natLt_8_32)))
    (broadcastInDim S8192x512x4 ![0, 1, 2] bcast_S1x1x4_S8192x512x4_0_1_2 (broadcastInDim S1x1x4 ![2] bcast_S4_S1x1x4_2 (muli (iotaInDim S4 32 0) (broadcastInDim S4 ![] bcast_S_S4 (constantI S_ 32 2#32))))))
    (broadcastInDim S8192x512x4 ![] bcast_S_S8192x512x4 (constantI S_ 32 3#32))

/-- One number per group of 64 columns, repeated over the group. -/
def grouped (z : FVec Ideal S8192x32 .bf16) : FVec Ideal S8192x32x64 .bf16 :=
  broadcastInDim S8192x32x64 ![0, 1, 2] bcast_S8192x32x1_S8192x32x64_0_1_2 (broadcastInDim S8192x32x1 ![0, 1] bcast_S8192x32_S8192x32x1_0_1 z)

/-- The weights as the reference dequantises them. -/
def weightsRef (w : IVec S8192x512 8) (z s : FVec Ideal S8192x32 .bf16) : FVec Ideal S8192x2048 .bf16 :=
  shapeCast _ (mulf (subf (shapeCast _ (sitofp .bf16 (codesRef w) : FVec Ideal S8192x512x4 .bf16) shapeCasts_S8192x512x4_S8192x32x64) (grouped z))
    (grouped s)) shapeCasts_S8192x32x64_S8192x2048

/-- Shifting a byte by twice `k` and keeping two bits. -/
theorem toInt_codeRef : ∀ (x : Fin 256) (k : Fin 4),
    (IntOp.shrsi .host (BitVec.setWidth 32 (BitVec.ofNat 8 x.val)) (BitVec.ofNat 32 k.val * 2#32) &&& 3#32).toInt
      = ((x.val / 4 ^ k.val % 4 : ℕ) : ℤ) := by
  decide +kernel

/-- A code, read. -/
theorem codesRef_apply (w : IVec S8192x512 8) (n : Fin 8192) (c : Fin 512) (k : Fin 4) :
    (codesRef w (ix3 n c k)).toInt = (((w (ix2 n c)).toNat / 4 ^ k.val % 4 : ℕ) : ℤ) := by
  rw [← toInt_codeRef ⟨(w (ix2 n c)).toNat, (w (ix2 n c)).isLt⟩ k]
  have e : codesRef w (ix3 n c k) = (IntOp.shrsi .host (BitVec.setWidth 32 (w (ix2 n c))) (BitVec.ofNat 32 k.val * 2#32) &&& 3#32) := by
    unfold codesRef
    pointwise
    rfl
  rw [e]
  simp only [BitVec.ofNat_toNat, BitVec.setWidth_eq]

/-- A group's number, read. -/
theorem grouped_apply (z : FVec Ideal S8192x32 .bf16) (n : Fin 8192) (g : Fin 32) (k : Fin 64) : grouped z (ix3 n g k) = z (ix2 n g) := by
  unfold grouped
  pointwise

/-- A dequantised weight. -/
theorem weightsRef_apply (w : IVec S8192x512 8) (z s : FVec Ideal S8192x32 .bf16) (n : Fin 8192) (j : Fin 2048) :
    weightsRef w z s (ix2 n j) = weightAt w z s n j := by
  have hj := j.isLt
  unfold weightsRef
  rw [shapeCast_apply _ _ _ (ix3 n (⟨j.val / 64, by omega⟩ : Fin 32) (⟨j.val % 64, by omega⟩ : Fin 64)), mulf_apply, subf_apply,
    grouped_apply, grouped_apply,
    shapeCast_apply _ _ _ (ix3 n (⟨j.val / 4, by omega⟩ : Fin 512) (⟨j.val % 4, by omega⟩ : Fin 4))]
  · unfold weightAt codeNum
    have e := codesRef_apply w n ⟨j.val / 4, by omega⟩ ⟨j.val % 4, by omega⟩
    have e' : (sitofp .bf16 (codesRef w) : FVec Ideal S8192x512x4 .bf16) (ix3 n (⟨j.val / 4, by omega⟩ : Fin 512) (⟨j.val % 4, by omega⟩ : Fin 4))
        = (((((w (ix2 n ⟨j.val / 4, by omega⟩)).toNat / 4 ^ (j.val % 4) % 4 : ℕ)) : ℝ) : EReal) := by
      show (((codesRef w _).toInt : ℝ) : EReal) = _
      rw [e]; push_cast; rfl
    rw [e']; rfl
  · rw [rowMajor_val3 _ _ _ rfl rfl, rowMajor_val3 _ _ _ rfl rfl]
    show n.val * 2048 + j.val / 4 * 4 + j.val % 4 = n.val * 2048 + j.val / 64 * 64 + j.val % 64
    omega
  · rw [rowMajor_val3 _ _ _ rfl rfl, rowMajor_val2 _ _ rfl]
    show n.val * 2048 + j.val / 64 * 64 + j.val % 64 = n.val * 2048 + j.val
    omega

end Cert.ReferenceIdeal.Value

end
-- ==== Proof.RefValue.lean ====
/-
  What the reference leaves in its two results: the rotated rows, and their product with the weights plus the bias.
-/
module

public import proofs.«01_k».proof.Proof.RefWeights

@[expose] public section

set_option maxRecDepth 8192

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec Cert.RefLayer Cert.Meaning

variable (V0 : Valuation τ sig (Elt Ideal))

/-- The rotated rows as the reference's operations give them. -/
def rotRef : FVec Ideal S15360x2048 .bf16 :=
  truncf .bf16 (mixed facts_10 (res_main_v293 V0) (res_main_v294 V0) (res_main_v287 V0) (res_main_v289 V0)) bitsLt_bf16_f32

/-- They are the rotated rows. -/
theorem rotRef_eq : rotRef V0 = rotated (rowsIn V0) (smoothIn V0) (thetaIn V0) := by
  funext y
  obtain ⟨r, j, rfl⟩ : ∃ r j, y = ix2 r j := ⟨y 0, y 1, eq_ix2 y⟩
  unfold rotRef
  rw [truncf_apply]
  exact rows_10 V0 r j

/-- The product as the reference's operations give it. -/
def prodRef (x : FVec Ideal S15360x2048 .bf16) (w : FVec Ideal S8192x2048 .bf16) (b : FVec Ideal S8192 .f32) : FVec Ideal S15360x8192 .bf16 :=
  truncf .bf16 (addf (Host.dotGeneral dot_S15360x2048_S8192x2048_S15360x8192_1_1_0_0_n_n none x w)
    (broadcastInDim S15360x8192 ![0, 1] bcast_S1x8192_S15360x8192_0_1 (broadcastInDim S1x8192 ![1] bcast_S8192_S1x8192_1 b))) bitsLt_bf16_f32

/-- It is the product. -/
theorem prodRef_eq (x : FVec Ideal S15360x2048 .bf16) (w : FVec Ideal S8192x2048 .bf16) (b : FVec Ideal S8192 .f32) :
    prodRef x w b = product x (fun n k => w (ix2 n k)) b := by
  funext y
  obtain ⟨r, j, rfl⟩ : ∃ r j, y = ix2 r j := ⟨y 0, y 1, eq_ix2 y⟩
  show _ = (∑ k : Fin 2048, x (ix2 r k) * w (ix2 j k) : EReal) + b (ix1 j)
  unfold prodRef
  pointwise

/-- The reference's first result. -/
def yOut (V0 : Valuation τ sig (Elt Ideal)) : FVec Ideal S15360x8192 .bf16 :=
  product (rotated (rowsIn V0) (smoothIn V0) (thetaIn V0))
    (weightAt (V0 (Proc.devRef .tc main_arg3)) (V0 (Proc.devRef .tc main_arg5)) (V0 (Proc.devRef .tc main_arg4)))
    (V0 (Proc.devRef .tc main_arg6))

/-- The run of the reference, with its results as the mathematics gives them. -/
theorem run_meaning (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v338) = yOut (launchContents m c)
      ∧ r.2.mem ((c.tc : Thread nD τ).loc main_v313) = rotated (rowsIn (launchContents m c)) (smoothIn (launchContents m c)) (thetaIn (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h1, h2, hargs⟩ := h c
  refine ⟨h1.trans ?_, h2.trans (rotRef_eq (launchContents m c)), hargs⟩
  have e : prodRef (rotRef (launchContents m c)) (weightsRef (launchContents m c (Proc.devRef .tc main_arg3))
      (launchContents m c (Proc.devRef .tc main_arg5)) (launchContents m c (Proc.devRef .tc main_arg4)))
      (launchContents m c (Proc.devRef .tc main_arg6)) = yOut (launchContents m c) := by
    rw [prodRef_eq, rotRef_eq]
    unfold yOut
    congr 1
    funext n k
    exact weightsRef_apply _ _ _ n k
  exact e

end Cert.ReferenceIdeal.Value

end
-- ==== Proof.Agree.lean ====
/-
  The kernel and the reference, over the extended reals, leave the same two arrays.
-/
module

public import proofs.«01_k».proof.Defs
public import proofs.«01_k».proof.Proof.Result
public import proofs.«01_k».proof.Proof.RefValue
public import proofs.«01_k».proof.Proof.Gen.KernelIdeal
public import proofs.«01_k».proof.Proof.Gen.ReferenceIdeal
public import Idealize.ShloMosaic.Adequacy
public import Idealize.ShloMosaic.Init

@[expose] public section

set_option maxRecDepth 16384

noncomputable section

namespace Cert.Agree

open Idealize.ShloMosaic Idealize.ShloMosaic.TcCoe Idealize.SL.Sem Idealize.ShloMosaic.StableHlo Cert.KernelIdeal.Inputs Cert.Meaning

variable (m : (ℓ : Loc Cert.KernelIdeal.nD Cert.KernelIdeal.τ Cert.KernelIdeal.sig) → Buf (Elt Ideal) ℓ) (c : Dev Cert.KernelIdeal.nD)

/-- The rotated rows of the kernel's arguments. -/
def rowsOut : FVec Ideal Cert.KernelIdeal.S15360x2048 .bf16 := rotated (rows m c) (smooth m c) (theta m c)

/-- The product of the kernel's arguments. -/
def productOut : FVec Ideal Cert.KernelIdeal.S15360x8192 .bf16 :=
  product (rowsOut m c) (weightAt (codes m c) (zero m c) (scale m c)) (bias m c)

/-- The reference's frame: it runs, its arguments end unchanged and its counters at zero. -/
theorem reference_frame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Both programs end with the same two arrays. -/
theorem agree : Cert.algebraic_KernelIdeal_ReferenceIdeal := by
  intro m g m' g' _ hargs
  refine ⟨fun c => productOut m c, fun c => rowsOut m c, ?_, ?_⟩
  · refine (θ_run Cert.KernelIdeal.defs _ _).mono (fun r h c => ?_) (Cert.KernelIdeal.Value.run (F := Ideal) m g)
    obtain ⟨h7, h8, hk⟩ := h c
    exact ⟨h7.trans (Cert.KernelIdeal.Result.product_array m c), h8.trans (Cert.KernelIdeal.Result.rows_array m c), hk⟩
  · refine (θ_run Cert.ReferenceIdeal.defs _ _).mono (fun r h c => ?_) (Cert.ReferenceIdeal.Value.run_meaning m' g')
    obtain ⟨h0, h1, hk⟩ := h c
    obtain ⟨a0, a1, a2, a3, a4, a5, a6⟩ := hargs c
    have er : Cert.ReferenceIdeal.Value.rowsIn (launchContents m' c) = rows m c :=
      congrArg (fun x => shapeCast Cert.KernelIdeal.S15360x2048 x Cert.KernelIdeal.Gen.facts.shapeCasts_S24x640x2048_S15360x2048) a0
    have es : Cert.ReferenceIdeal.Value.smoothIn (launchContents m' c) = smooth m c := a1
    have et : Cert.ReferenceIdeal.Value.thetaIn (launchContents m' c) = theta m c := a2
    have eR : rotated (Cert.ReferenceIdeal.Value.rowsIn (launchContents m' c)) (Cert.ReferenceIdeal.Value.smoothIn (launchContents m' c))
        (Cert.ReferenceIdeal.Value.thetaIn (launchContents m' c)) = rowsOut m c := by
      rw [er, es, et]; rfl
    have ew : weightAt (launchContents m' c (Proc.devRef .tc Cert.ReferenceIdeal.main_arg3))
        (launchContents m' c (Proc.devRef .tc Cert.ReferenceIdeal.main_arg5))
        (launchContents m' c (Proc.devRef .tc Cert.ReferenceIdeal.main_arg4)) = weightAt (codes m c) (zero m c) (scale m c) := by
      congr 1
    have eb : launchContents m' c (Proc.devRef .tc Cert.ReferenceIdeal.main_arg6) = bias m c := a6
    refine ⟨h0.trans ?_, h1.trans eR, hk⟩
    unfold Cert.ReferenceIdeal.Value.yOut productOut
    rw [eR, ew]
    exact congrArg _ eb

end Cert.Agree

end
-- ==== Proof.lean ====
/- The certificate: the three frames, the idealization, and the agreement of the kernel with the reference over the
   extended reals. The kernel's frame over the words is Proof/WordsFrame.lean's, over the extended reals Proof/Frame.lean's. The
   agreement is Proof/Agree.lean's: what the kernel leaves (Proof/Result.lean) and what the reference leaves
   (Proof/RefValue.lean) are the same arrays of Proof/Meaning.lean. -/
module

public import proofs.«01_k».proof.Defs
public import proofs.«01_k».proof.Proof.Gen.Kernel
public import proofs.«01_k».proof.Proof.WordsFrame
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Agree

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Agree.reference_frame, trivial,
  Cert.Agree.agree⟩

end Cert.Proof

end
